-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x256x1024 : Shape := ⟨3, ![16, 256, 1024]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S16x4096x3 : S_.BroadcastsInDim S16x4096x3 (![] : Fin 0 → Fin S16x4096x3.rank)
  bcast_S_S16x1024x3 : S_.BroadcastsInDim S16x1024x3 (![] : Fin 0 → Fin S16x1024x3.rank)
  bcast_S_S16x256x4096 : S_.BroadcastsInDim S16x256x4096 (![] : Fin 0 → Fin S16x256x4096.rank)
  bcast_S_S16x256x1024 : S_.BroadcastsInDim S16x256x1024 (![] : Fin 0 → Fin S16x256x1024.rank)
  bcast_S_S512x512 : S_.BroadcastsInDim S512x512 (![] : Fin 0 → Fin S512x512.rank)
  bcast_S_S512 : S_.BroadcastsInDim S512 (![] : Fin 0 → Fin S512.rank)
  bcast_S_S256x512 : S_.BroadcastsInDim S256x512 (![] : Fin 0 → Fin S256x512.rank)
  bcast_S_S256 : S_.BroadcastsInDim S256 (![] : Fin 0 → Fin S256.rank)

variable [Facts]

def fn_part1 {F : FTy → Type} [FloatOps F] (main_arg6 : FVec F S512 .f32) (main_arg7 : FVec F S512 .f32) (main_arg8 : FVec F S256x512 .f32) (main_arg9 : FVec F S256 .f32) (main_arg10 : FVec F S256 .f32) (main_v2 : IVec S16x4096x3 1) (main_v5 : IVec S16x1024x3 1) (main_v8 : IVec S16x256x4096 1) (main_v11 : IVec S16x256x1024 1) (main_v14 : IVec S512x512 1) (main_v17 : IVec S512 1) : IVec S16x4096x3 1 × IVec S16x1024x3 1 × IVec S16x256x4096 1 × IVec S16x256x1024 1 × IVec S512x512 1 × IVec S512 1 × IVec S512 1 × IVec S512 1 × IVec S256x512 1 × IVec S256 1 × IVec S256 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S256x512 .f32 := Host.absf main_arg8
  let main_cst_7 : FVec F S_ .f32 := constant S_ .f32 0x7F800000#32
  let main_v25 : FVec F S256x512 .f32 := broadcastInDim S256x512 ![] bcast_S_S256x512 main_cst_7
  let main_v26 : IVec S256x512 1 := cmpf .olt main_v24 main_v25
  let main_v27 : FVec F S256 .f32 := Host.absf main_arg9
  let main_cst_8 : FVec F S_ .f32 := constant S_ .f32 0x7F800000#32
  let main_v28 : FVec F S256 .f32 := broadcastInDim S256 ![] bcast_S_S256 main_cst_8
  let main_v29 : IVec S256 1 := cmpf .olt main_v27 main_v28
  let main_v30 : FVec F S256 .f32 := Host.absf main_arg10
  let main_cst_9 : FVec F S_ .f32 := constant S_ .f32 0x7F800000#32
  let main_v31 : FVec F S256 .f32 := broadcastInDim S256 ![] bcast_S_S256 main_cst_9
  let main_v32 : IVec S256 1 := cmpf .olt main_v30 main_v31
  (main_v2, main_v5, main_v8, main_v11, main_v14, main_v17, main_v20, main_v23, main_v26, main_v29, main_v32)

def fn {F : FTy → Type} [FloatOps F] (main_arg0 : FVec F S16x4096x3 .f32) (main_arg1 : FVec F S16x1024x3 .f32) (main_arg2 : FVec F S16x256x4096 .f32) (main_arg3 : FVec F S16x256x1024 .f32) (main_arg4 : FVec F S512x512 .f32) (main_arg5 : FVec F S512 .f32) (main_arg6 : FVec F S512 .f32) (main_arg7 : FVec F S512 .f32) (main_arg8 : FVec F S256x512 .f32) (main_arg9 : FVec F S256 .f32) (main_arg10 : FVec F S256 .f32) (main_arg11 : FVec F S256 .f32) : IVec S16x4096x3 1 × IVec S16x1024x3 1 × IVec S16x256x4096 1 × IVec S16x256x1024 1 × IVec S512x512 1 × IVec S512 1 × IVec S512 1 × IVec S512 1 × IVec S256x512 1 × IVec S256 1 × IVec S256 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_v3 : FVec F S16x1024x3 .f32 := Host.absf main_arg1
  let main_cst_0 : FVec F S_ .f32 := constant S_ .f32 0x7F800000#32
  let main_v4 : FVec F S16x1024x3 .f32 := broadcastInDim S16x1024x3 ![] bcast_S_S16x1024x3 main_cst_0
  let main_v5 : IVec S16x1024x3 1 := cmpf .olt main_v3 main_v4
  let main_v6 : FVec F S16x256x4096 .f32 := Host.absf main_arg2
  let main_cst_1 : FVec F S_ .f32 := constant S_ .f32 0x7F800000#32
  let main_v7 : FVec F S16x256x4096 .f32 := broadcastInDim S16x256x4096 ![] bcast_S_S16x256x4096 main_cst_1
  let main_v8 : IVec S16x256x4096 1 := cmpf .olt main_v6 main_v7
  let main_v9 : FVec F S16x256x1024 .f32 := Host.absf main_arg3
  let main_cst_2 : FVec F S_ .f32 := constant S_ .f32 0x7F800000#32
  let main_v10 : FVec F S16x256x1024 .f32 := broadcastInDim S16x256x1024 ![] bcast_S_S16x256x1024 main_cst_2
  let main_v11 : IVec S16x256x1024 1 := cmpf .olt main_v9 main_v10
  let main_v12 : FVec F S512x512 .f32 := Host.absf main_arg4
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_arg10 main_v2 main_v5 main_v8 main_v11 main_v14 main_v17
-- ==== Kernel.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x256x1024 : Shape := ⟨3, ![16, 256, 1024]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩
abbrev S16x4096x8 : Shape := ⟨3, ![16, 4096, 8]⟩
abbrev S16x1024x8 : Shape := ⟨3, ![16, 1024, 8]⟩
abbrev S16x512x4096 : Shape := ⟨3, ![16, 512, 4096]⟩
abbrev S2x512 : Shape := ⟨2, ![2, 512]⟩
abbrev S1x512 : Shape := ⟨2, ![1, 512]⟩
abbrev S2x256 : Shape := ⟨2, ![2, 256]⟩
abbrev S1x256 : Shape := ⟨2, ![1, 256]⟩
abbrev S1x512x8 : Shape := ⟨3, ![1, 512, 8]⟩
abbrev S1x1024x8 : Shape := ⟨3, ![1, 1024, 8]⟩
abbrev S1x256x512 : Shape := ⟨3, ![1, 256, 512]⟩
abbrev S1x256x1024 : Shape := ⟨3, ![1, 256, 1024]⟩
abbrev S1x512x512 : Shape := ⟨3, ![1, 512, 512]⟩
abbrev S512x8 : Shape := ⟨2, ![512, 8]⟩
abbrev S1024x8 : Shape := ⟨2, ![1024, 8]⟩
abbrev S512x1024 : Shape := ⟨2, ![512, 1024]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩
abbrev S512x256 : Shape := ⟨2, ![512, 256]⟩
abbrev S256x1 : Shape := ⟨2, ![256, 1]⟩

abbrev nBuf : Space → Nat
  | .hbm => 27
  | .vmem => 28
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x256x4096, .f32⟩
  | .hbm, ⟨3, _⟩ => ⟨S16x256x1024, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S_, .i32⟩
  | .hbm, ⟨13, _⟩ => ⟨S_, .f32⟩
  | .hbm, ⟨14, _⟩ => ⟨S16x4096x8, .f32⟩
  | .hbm, ⟨15, _⟩ => ⟨S_, .i32⟩
  | .hbm, ⟨16, _⟩ => ⟨S_, .f32⟩
  | .hbm, ⟨17, _⟩ => ⟨S16x1024x8, .f32⟩
  | .hbm, ⟨18, _⟩ => ⟨S16x512x4096, .f32⟩
  | .hbm, ⟨19, _⟩ => ⟨S2x512, .f32⟩
  | .hbm, ⟨20, _⟩ => ⟨S1x512, .f32⟩
  | .hbm, ⟨21, _⟩ => ⟨S1x512, .f32⟩
  | .hbm, ⟨22, _⟩ => ⟨S16x256x4096, .f32⟩
  | .hbm, ⟨23, _⟩ => ⟨S2x256, .f32⟩
  | .hbm, ⟨24, _⟩ => ⟨S1x256, .f32⟩
  | .hbm, ⟨25, _⟩ => ⟨S1x256, .f32⟩
  | .hbm, ⟨26, _⟩ => ⟨S16x256x4096, .f32⟩
  | .local _ .vmem, ⟨0, _⟩ => ⟨S1x512x8, .f32⟩
  | .local _ .vmem, ⟨1, _⟩ => ⟨S1x512x8, .f32⟩
  | .local _ .vmem, ⟨2, _⟩ => ⟨S1x1024x8, .f32⟩
  | .local _ .vmem, ⟨3, _⟩ => ⟨S1x1024x8, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .f32⟩
  | .local _ .vmem, ⟨7, _⟩ => ⟨S1x256x1024, .f32⟩
  | .local _ .vmem, ⟨8, _⟩ => ⟨S512x512, .f32⟩
  | .local _ .vmem, ⟨9, _⟩ => ⟨S1x512x512, .f32⟩
  | .local _ .vmem, ⟨10, _⟩ => ⟨S1x512x512, .f32⟩
  | .local _ .vmem, ⟨11, _⟩ => ⟨S2x512, .f32⟩
  | .local _ .vmem, ⟨12, _⟩ => ⟨S1x512x512, .f32⟩
  | .local _ .vmem, ⟨13, _⟩ => ⟨S1x512x512, .f32⟩
  | .local _ .vmem, ⟨14, _⟩ => ⟨S2x512, .f32⟩
  | .local _ .vmem, ⟨15, _⟩ => ⟨S1x512, .f32⟩
  | .local _ .vmem, ⟨16, _⟩ => ⟨S1x512, .f32⟩
  | .local _ .vmem, ⟨17, _⟩ => ⟨S256x512, .f32⟩
  | .local _ .vmem, ⟨18, _⟩ => ⟨S1x256x512, .f32⟩
  | .local _ .vmem, ⟨19, _⟩ => ⟨S1x256x512, .f32⟩
  | .local _ .vmem, ⟨20, _⟩ => ⟨S2x256, .f32⟩
  | .local _ .vmem, ⟨21, _⟩ => ⟨S1x256x512, .f32⟩
  | .local _ .vmem, ⟨22, _⟩ => ⟨S1x256x512, .f32⟩
  | .local _ .vmem, ⟨23, _⟩ => ⟨S2x256, .f32⟩
  | .local _ .vmem, ⟨24, _⟩ => ⟨S1x256, .f32⟩
  | .local _ .vmem, ⟨25, _⟩ => ⟨S1x256, .f32⟩
  | .local _ .vmem, ⟨26, _⟩ => ⟨S1x256x512, .f32⟩
  | .local _ .vmem, ⟨27, _⟩ => ⟨S1x256x512, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_call0_v0 : Ref sig .tc := ⟨.hbm, 13, rfl⟩
abbrev main_call0_v0 : Ref sig .tc := ⟨.hbm, 14, rfl⟩
abbrev main_call0_c_0 : Ref sig .tc := ⟨.hbm, 15, rfl⟩
abbrev main_call0_call1_v0 : Ref sig .tc := ⟨.hbm, 16, rfl⟩
abbrev main_call0_v1 : Ref sig .tc := ⟨.hbm, 17, rfl⟩
abbrev main_call0_v2_0 : Ref sig .tc := ⟨.hbm, 18, rfl⟩
abbrev main_call0_v2_1 : Ref sig .tc := ⟨.hbm, 19, rfl⟩
abbrev main_call0_v3 : Ref sig .tc := ⟨.hbm, 20, rfl⟩
abbrev main_call0_v4 : Ref sig .tc := ⟨.hbm, 21, rfl⟩
abbrev main_call0_v5_0 : Ref sig .tc := ⟨.hbm, 22, rfl⟩
abbrev main_call0_v5_1 : Ref sig .tc := ⟨.hbm, 23, rfl⟩
abbrev main_call0_v6 : Ref sig .tc := ⟨.hbm, 24, rfl⟩
abbrev main_call0_v7 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let arg1 : BitVec 32 := BitVec.ofNat 32 (i 1).val
  let c0_i32_45 : BitVec 32 := 0#32
  let v106 : BitVec 1 := Scalar.cmpi .eq arg1 c0_i32_45
  let v107 : BitVec 1 := Scalar.andi v105 v106
  let v108 : BitVec 32 := Scalar.extui v107
  let c0_i32_46 : BitVec 32 := 0#32
  let v109 : BitVec 1 := Scalar.cmpi .ne v108 c0_i32_46
  v109

def k0_cond2 (i : grid0.Coords) : BitVec 1 :=
  let arg0 : BitVec 32 := BitVec.ofNat 32 (i 0).val
  let c0_i32 : BitVec 32 := 0#32
  let v105 : BitVec 1 := Scalar.cmpi .eq arg0 c0_i32
  let arg1 : BitVec 32 := BitVec.ofNat 32 (i 1).val
  let c0_i32_45 : BitVec 32 := 0#32
  let v106 : BitVec 1 := Scalar.cmpi .eq arg1 c0_i32_45
  let v107 : BitVec 1 := Scalar.andi v105 v106
  let v_true : BitVec 1 := 1#1
  let v110 : BitVec 1 := Scalar.xori v107 v_true
  let v111 : BitVec 32 := Scalar.extui v110
  let c0_i32_47 : BitVec 32 := 0#32
  let v112 : BitVec 1 := Scalar.cmpi .ne v111 c0_i32_47
  v112

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![16, 8], ![false, false]⟩

def k1_cond1 (i : grid1.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_20 : BitVec 32 := 0#32
  let v42 : BitVec 1 := Scalar.cmpi .eq arg1 c0_i32_20
  let v43 : BitVec 1 := Scalar.andi v41 v42
  let v44 : BitVec 32 := Scalar.extui v43
  let c0_i32_21 : BitVec 32 := 0#32
  let v45 : BitVec 1 := Scalar.cmpi .ne v44 c0_i32_21
  v45

def k1_cond2 (i : grid1.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_20 : BitVec 32 := 0#32
  let v42 : BitVec 1 := Scalar.cmpi .eq arg1 c0_i32_20
  let v43 : BitVec 1 := Scalar.andi v41 v42
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S2x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x256x1024 : Shape := ⟨3, ![16, 256, 1024]⟩
abbrev S512x512 : Shape := ⟨2, ![512, 512]⟩
abbrev S512 : Shape := ⟨1, ![512]⟩
abbrev S256x512 : Shape := ⟨2, ![256, 512]⟩
abbrev S256 : Shape := ⟨1, ![256]⟩
abbrev S16x3x1024 : Shape := ⟨3, ![16, 3, 1024]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x1024x256 : Shape := ⟨3, ![16, 1024, 256]⟩
abbrev S16x4096x3x1 : Shape := ⟨4, ![16, 4096, 3, 1]⟩
abbrev S16x4096x3x256 : Shape := ⟨4, ![16, 4096, 3, 256]⟩
abbrev S16x4096x256 : Shape := ⟨3, ![16, 4096, 256]⟩
abbrev S16x512x4096 : Shape := ⟨3, ![16, 512, 4096]⟩
abbrev S16x4096x512 : Shape := ⟨3, ![16, 4096, 512]⟩
abbrev S1x512x1 : Shape := ⟨3, ![1, 512, 1]⟩
abbrev S1x256x1 : Shape := ⟨3, ![1, 256, 1]⟩

abbrev nBuf : Space → Nat
  | .hbm => 165
  | .vmem => 0
  | .smem => 0
  | _ => 0

abbrev hbmTy0_0 (i : Nat) : BufTy := match i % 128 with
  | 0 => ⟨S16x4096x3, .f32⟩
  | 1 => ⟨S16x1024x3, .f32⟩
  | 2 => ⟨S16x256x4096, .f32⟩
  | 3 => ⟨S16x256x1024, .f32⟩
  | 4 => ⟨S512x512, .f32⟩
  | 5 => ⟨S512, .f32⟩
  | 6 => ⟨S512, .f32⟩
  | 7 => ⟨S512, .f32⟩
  | 8 => ⟨S256x512, .f32⟩
  | 9 => ⟨S256, .f32⟩
  | 10 => ⟨S256, .f32⟩
  | 11 => ⟨S256, .f32⟩
  | 12 => ⟨S16x3x1024, .f32⟩
  | 13 => ⟨S16x4096x1024, .f32⟩
  | 14 => ⟨S_, .f32⟩
  | 15 => ⟨S16x4096x1024, .f32⟩
  | 16 => ⟨S16x4096x1024, .f32⟩
  | 17 => ⟨S16x4096x3, .f32⟩
  | 18 => ⟨S_, .f32⟩
  | 19 => ⟨S16x4096, .f32⟩
  | 20 => ⟨S16x4096x1, .f32⟩
  | 21 => ⟨S16x4096x1024, .f32⟩
  | 22 => ⟨S16x4096x1024, .f32⟩
  | 23 => ⟨S16x1024x3, .f32⟩
  | 24 => ⟨S_, .f32⟩
  | 25 => ⟨S16x1024, .f32⟩
  | 26 => ⟨S16x1x1024, .f32⟩
  | 27 => ⟨S16x4096x1024, .f32⟩
  | 28 => ⟨S16x4096x1024, .f32⟩
  | 29 => ⟨S16x4096x1024, .f32⟩
  | 30 => ⟨S16x4096x3, .f32⟩
  | 31 => ⟨S16x4096x3, .i32⟩
  | 32 => ⟨S16x4096x3, .f32⟩
  | 33 => ⟨S_, .f32⟩
  | 34 => ⟨S16x4096x3, .f32⟩
  | 35 => ⟨S16x4096x3, .f32⟩
  | 36 => ⟨S_, .f32⟩
  | 37 => ⟨S16x4096x3, .f32⟩
  | 38 => ⟨S16x4096x3, .f32⟩
  | 39 => ⟨S_, .f32⟩
  | 40 => ⟨S16x4096, .f32⟩
  | 41 => ⟨S16x4096x1, .f32⟩
  | 42 => ⟨S16x4096x3, .f32⟩
  | 43 => ⟨S16x4096x3, .f32⟩
  | 44 => ⟨S16x1024x256, .f32⟩
  | 45 => ⟨S_, .i32⟩
  | 46 => ⟨S16x4096x3, .i32⟩
  | 47 => ⟨S16x4096x3, .i1⟩
  | 48 => ⟨S_, .i32⟩
  | 49 => ⟨S16x4096x3, .i32⟩
  | 50 => ⟨S16x4096x3, .i32⟩
  | 51 => ⟨S16x4096x3, .i32⟩
  | 52 => ⟨S16x4096x3x1, .i32⟩
  | 53 => ⟨S16x4096x3x256, .f32⟩
  | 54 => ⟨S16x4096x3x1, .f32⟩
  | 55 => ⟨S16x4096x3x256, .f32⟩
  | 56 => ⟨S16x4096x3x256, .f32⟩
  | 57 => ⟨S_, .f32⟩
  | 58 => ⟨S16x4096x256, .f32⟩
  | 59 => ⟨S16x256x4096, .f32⟩
  | 60 => ⟨S16x512x4096, .f32⟩
  | 61 => ⟨S16x4096x512, .f32⟩
  | 62 => ⟨S16x512x4096, .f32⟩
  | 63 => ⟨S1x512x1, .f32⟩
  | 64 => ⟨S16x512x4096, .f32⟩
  | 65 => ⟨S16x512x4096, .f32⟩
  | 66 => ⟨S_, .f32⟩
  | 67 => ⟨S512, .f32⟩
  | 68 => ⟨S1x512x1, .f32⟩
  | 69 => ⟨S_, .f32⟩
  | 70 => ⟨S1x512x1, .f32⟩
  | 71 => ⟨S1x512x1, .f32⟩
  | 72 => ⟨S_, .i32⟩
  | 73 => ⟨S_, .f32⟩
  | 74 => ⟨S512, .f32⟩
  | 75 => ⟨S1x512x1, .f32⟩
  | 76 => ⟨S_, .f32⟩
  | 77 => ⟨S1x512x1, .f32⟩
  | 78 => ⟨S1x512x1, .f32⟩
  | 79 => ⟨S16x512x4096, .f32⟩
  | 80 => ⟨S16x512x4096, .f32⟩
  | 81 => ⟨S16x512x4096, .f32⟩
  | 82 => ⟨S_, .f32⟩
  | 83 => ⟨S_, .f32⟩
  | 84 => ⟨S_, .f32⟩
  | 85 => ⟨S_, .f32⟩
  | 86 => ⟨S512, .f32⟩
  | 87 => ⟨S1x512x1, .f32⟩
  | 88 => ⟨S1x512x1, .f32⟩
  | 89 => ⟨S1x512x1, .f32⟩
  | 90 => ⟨S_, .f32⟩
  | 91 => ⟨S_, .i1⟩
  | 92 => ⟨S_, .f32⟩
  | 93 => ⟨S_, .f32⟩
  | 94 => ⟨S1x512x1, .f32⟩
  | 95 => ⟨S1x512x1, .f32⟩
  | 96 => ⟨S16x512x4096, .f32⟩
  | 97 => ⟨S16x512x4096, .f32⟩
  | 98 => ⟨S_, .f32⟩
  | 99 => ⟨S1x512x1, .f32⟩
  | 100 => ⟨S1x512x1, .f32⟩
  | 101 => ⟨S1x512x1, .f32⟩
  | 102 => ⟨S16x512x4096, .f32⟩
  | 103 => ⟨S16x512x4096, .f32⟩
  | 104 => ⟨S1x512x1, .f32⟩
  | 105 => ⟨S16x512x4096, .f32⟩
  | 106 => ⟨S16x512x4096, .f32⟩
  | 107 => ⟨S1x512x1, .f32⟩
  | 108 => ⟨S16x512x4096, .f32⟩
  | 109 => ⟨S16x512x4096, .f32⟩
  | 110 => ⟨S_, .f32⟩
  | 111 => ⟨S16x512x4096, .f32⟩
  | 112 => ⟨S16x512x4096, .f32⟩
  | 113 => ⟨S16x4096x256, .f32⟩
  | 114 => ⟨S16x256x4096, .f32⟩
  | 115 => ⟨S1x256x1, .f32⟩
  | 116 => ⟨S16x256x4096, .f32⟩
  | 117 => ⟨S16x256x4096, .f32⟩
  | 118 => ⟨S_, .f32⟩
  | 119 => ⟨S256, .f32⟩
  | 120 => ⟨S1x256x1, .f32⟩
  | 121 => ⟨S_, .f32⟩
  | 122 => ⟨S1x256x1, .f32⟩
  | 123 => ⟨S1x256x1, .f32⟩
  | 124 => ⟨S_, .i32⟩
  | 125 => ⟨S_, .f32⟩
  | 126 => ⟨S256, .f32⟩
  | 127 => ⟨S1x256x1, .f32⟩
  | _ => ⟨S16x4096x3, .f32⟩

abbrev hbmTy0_1 (i : Nat) : BufTy := match i % 128 with
  | 0 => ⟨S_, .f32⟩
  | 1 => ⟨S1x256x1, .f32⟩
  | 2 => ⟨S1x256x1, .f32⟩
  | 3 => ⟨S16x256x4096, .f32⟩
  | 4 => ⟨S16x256x4096, .f32⟩
  | 5 => ⟨S16x256x4096, .f32⟩
  | 6 => ⟨S_, .f32⟩
  | 7 => ⟨S_, .f32⟩
  | 8 => ⟨S_, .f32⟩
  | 9 => ⟨S_, .f32⟩
  | 10 => ⟨S256, .f32⟩
  | 11 => ⟨S1x256x1, .f32⟩
  | 12 => ⟨S1x256x1, .f32⟩
  | 13 => ⟨S1x256x1, .f32⟩
  | 14 => ⟨S_, .f32⟩
  | 15 => ⟨S_, .i1⟩
  | 16 => ⟨S_, .f32⟩
  | 17 => ⟨S_, .f32⟩
  | 18 => ⟨S1x256x1, .f32⟩
  | 19 => ⟨S1x256x1, .f32⟩
  | 20 => ⟨S16x256x4096, .f32⟩
  | 21 => ⟨S16x256x4096, .f32⟩
  | 22 => ⟨S_, .f32⟩
  | 23 => ⟨S1x256x1, .f32⟩
  | 24 => ⟨S1x256x1, .f32⟩
  | 25 => ⟨S1x256x1, .f32⟩
  | 26 => ⟨S16x256x4096, .f32⟩
  | 27 => ⟨S16x256x4096, .f32⟩
  | 28 => ⟨S1x256x1, .f32⟩
  | 29 => ⟨S16x256x4096, .f32⟩
  | 30 => ⟨S16x256x4096, .f32⟩
  | 31 => ⟨S1x256x1, .f32⟩
  | 32 => ⟨S16x256x4096, .f32⟩
  | 33 => ⟨S16x256x4096, .f32⟩
  | 34 => ⟨S_, .f32⟩
  | 35 => ⟨S16x256x4096, .f32⟩
  | 36 => ⟨S16x256x4096, .f32⟩
  | _ => ⟨S16x4096x3, .f32⟩

abbrev hbmTy (i : Nat) : BufTy := match i / 128 with
  | 0 => hbmTy0_0 i
  | 1 => hbmTy0_1 i
  | _ => ⟨S16x4096x3, .f32⟩

abbrev bufTy : (tb : Table) → Fin (tcTables nBuf tb) → BufTy
  | .hbm, ⟨i, _⟩ => hbmTy i
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_values : Ref sig .tc := ⟨.hbm, 30, rfl⟩
abbrev main_indices : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_cst_3 : Ref sig .tc := ⟨.hbm, 90, rfl⟩
abbrev main_call0_v13 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_10 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_call1_cst : Ref sig .tc := ⟨.hbm, 110, rfl⟩
abbrev main_call1_v0 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_11 : Ref sig .tc := ⟨.hbm, 118, rfl⟩
abbrev main_v67 : Ref sig .tc := ⟨.hbm, 119, rfl⟩
abbrev main_v68 : Ref sig .tc := ⟨.hbm, 120, rfl⟩
abbrev main_cst_12 : Ref sig .tc := ⟨.hbm, 121, rfl⟩
abbrev main_v69 : Ref sig .tc := ⟨.hbm, 122, rfl⟩
abbrev main_v70 : Ref sig .tc := ⟨.hbm, 123, rfl⟩
abbrev main_c_13 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_cst_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_cst_1 : Ref sig .tc := ⟨.hbm, 135, rfl⟩
abbrev main_call2_v8 : Ref sig .tc := ⟨.hbm, 136, rfl⟩
abbrev main_call2_cst_2 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_v12 : Ref sig .tc := ⟨.hbm, 141, rfl⟩
abbrev main_call2_cst_3 : Ref sig .tc := ⟨.hbm, 142, rfl⟩
abbrev main_call2_v13 : Ref sig .tc := ⟨.hbm, 143, rfl⟩
abbrev main_call2_cst_4 : Ref sig .tc := ⟨.hbm, 144, rfl⟩
abbrev main_call2_call0_v0 : Ref sig .tc := ⟨.hbm, 145, rfl⟩
abbrev main_call2_call0_v1 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_14 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_call3_cst : Ref sig .tc := ⟨.hbm, 162, rfl⟩
abbrev main_call3_v0 : Ref sig .tc := ⟨.hbm, 163, rfl⟩
abbrev main_v85 : Ref sig .tc := ⟨.hbm, 164, rfl⟩

abbrev nD : Nat := 1
abbrev τ : Topo := Topo.v7x

variable {F : FTy → Type} [FloatOps F]
-- ==== Proof.KernelIdeal.Stage1.lean ====
/- The first pallas_call of `kernel`: its body at every grid point, over any contents at entry. The window of sums keeps its contents from point to point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's buffer holds its block at every point, for any proof data that enters with the array and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1's buffer holds its block at every point, for any proof data that enters with the array and leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input 2's buffer holds its block at every point, for any proof data that enters with the array and leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input 3's buffer holds its block at every point, for any proof data that enters with the array and leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input 4's buffer holds its block at every point, for any proof data that enters with the array and leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window -/

abbrev rA0 : Rect S1x512x8 := Rect.unit (s := S1x512x8) ![0, 0, 0] S1x512x8.size inb_S1x512x8_S1x512x8_0_0_0
abbrev rB0 : Rect S1x1024x8 := Rect.unit (s := S1x1024x8) ![0, 0, 0] S1x1024x8.size inb_S1x1024x8_S1x1024x8_0_0_0
abbrev rP0 : Rect S1x256x512 := Rect.unit (s := S1x256x512) ![0, 0, 0] S1x256x512.size inb_S1x256x512_S1x256x512_0_0_0
abbrev rQ0 : Rect S1x256x1024 := Rect.unit (s := S1x256x1024) ![0, 0, 0] S1x256x1024.size inb_S1x256x1024_S1x256x1024_0_0_0
abbrev rL0 : Rect S512x512 := Rect.unit (s := S512x512) ![0, 0] S512x256.size inb_S512x512_S512x256_0_0
abbrev rR0 : Rect S512x512 := Rect.unit (s := S512x512) ![0, 256] S512x256.size inb_S512x512_S512x256_0_256
abbrev rO0 : Rect S1x512x512 := Rect.unit (s := S1x512x512) ![0, 0, 0] S1x512x512.size inb_S1x512x512_S1x512x512_0_0_0
abbrev rS0 : Rect S2x512 := Rect.unit (s := S2x512) ![0, 0] S2x512.size inb_S2x512_S2x512_0_0

/-- The interpolation weights the body computes from the two coordinate blocks. -/
def wd0 (x0 : Vec F S1x512x8 .f32) (x1 : Vec F S1x1024x8 .f32) : FVec F S512x1024 .f32 :=
  k0_pay11 (iota .tc S512x1024 32 [1] iota_S512x1024_d1_w32) (k0_pay6 (View.ld x0 rA0) (View.ld x1 rB0)) (k0_pay7 (View.ld x0 rA0) (View.ld x1 rB0))
    (k0_pay8 (View.ld x0 rA0) (View.ld x1 rB0)) (k0_pay9 (View.ld x0 rA0) (View.ld x1 rB0)) (k0_pay10 (View.ld x0 rA0) (View.ld x1 rB0))
/-- The output block. -/
def out0 (x0 : Vec F S1x512x8 .f32) (x1 : Vec F S1x1024x8 .f32) (x2 : Vec F S1x256x512 .f32) (x3 : Vec F S1x256x1024 .f32) (x4 : Vec F S512x512 .f32) : Vec F S1x512x512 .f32 :=
  View.canon [⟨rO0, k0_pay2 (wd0 x0 x1) (View.ld x3 rQ0) (View.ld x2 rP0) (View.ld x4 rL0) (View.ld x4 rR0)⟩]
/-- The sums' block at the first point. -/
def first0 (x0 : Vec F S1x512x8 .f32) (x1 : Vec F S1x1024x8 .f32) (x2 : Vec F S1x256x512 .f32) (x3 : Vec F S1x256x1024 .f32) (x4 : Vec F S512x512 .f32) : Vec F S2x512 .f32 :=
  View.canon [⟨rS0, k0_pay3 (wd0 x0 x1) (View.ld x3 rQ0) (View.ld x2 rP0) (View.ld x4 rL0) (View.ld x4 rR0)⟩]
/-- The sums' block at a later point, over what it held. -/
def next0 (x0 : Vec F S1x512x8 .f32) (x1 : Vec F S1x1024x8 .f32) (x2 : Vec F S1x256x512 .f32) (x3 : Vec F S1x256x1024 .f32) (x4 : Vec F S512x512 .f32) (xo : Vec F S2x512 .f32) : Vec F S2x512 .f32 :=
  View.canon [⟨rS0, k0_pay4 (wd0 x0 x1) (View.ld x3 rQ0) (View.ld x2 rP0) (View.ld x4 rL0) (View.ld x4 rR0) (View.ld xo rS0)⟩]

/-- The store covers the whole block. -/
theorem cover0_5 (p : Vec F S1x512x512 .f32) (y : S1x512x512.Idx) :
    ∃ pc ∈ ([⟨rO0, p⟩] : List (View.Piece (Elt F) S1x512x512 .f32)), y ∈ pc.1.set :=
  View.cover_of_tiled [⟨rO0, p⟩] S1x512x512.size (by rfl) y
/-- The store covers the whole block. -/
theorem cover0_6 (p : Vec F S2x512 .f32) (y : S2x512.Idx) :
    ∃ pc ∈ ([⟨rS0, p⟩] : List (View.Piece (Elt F) S2x512 .f32)), y ∈ pc.1.set :=
  View.cover_of_tiled [⟨rS0, p⟩] S2x512.size (by rfl) y

/-- The first conditional is taken at the first point only. -/
theorem cond0_first : ∀ t : Fin cfg0.N, k0_cond1 (grid0.coords t) = 1#1 ↔ t.val = 0 :=
  (by decide +kernel : ∀ t : Fin grid0.N, k0_cond1 (grid0.coords t) = 1#1 ↔ t.val = 0)
/-- The second conditional is taken at every later point. -/
theorem cond0_later : ∀ t : Fin cfg0.N, k0_cond2 (grid0.coords t) = 1#1 ↔ t.val ≠ 0 :=
  (by decide +kernel : ∀ t : Fin grid0.N, k0_cond2 (grid0.coords t) = 1#1 ↔ t.val ≠ 0)

set_option maxHeartbeats 2000000 in
/-- The body at the first point: the sums are stored as they are. -/
theorem sound0A (c : Dev nD) (E : Set ℕ) (i : grid0.Coords) (arg2 : Memref sig .tc .vmem S1x512x8 .f32) (harg2 : arg2.IsWhole) (arg3 : Memref sig .tc .vmem S1x1024x8 .f32) (harg3 : arg3.IsWhole) (arg4 : Memref sig .tc .vmem S1x256x512 .f32) (harg4 : arg4.IsWhole) (arg5 : Memref sig .tc .vmem S1x256x1024 .f32) (harg5 : arg5.IsWhole) (arg6 : Memref sig .tc .vmem S512x512 .f32) (harg6 : arg6.IsWhole) (arg7 : Memref sig .tc .vmem S1x512x512 .f32) (harg7 : arg7.IsWhole) (arg8 : Memref sig .tc .vmem S2x512 .f32) (harg8 : arg8.IsWhole) (hc0 : k0_cond1 i = 1#1) (hc1 : ¬k0_cond2 i = 1#1)
    (x0 : Vec F S1x512x8 .f32) (x1 : Vec F S1x1024x8 .f32) (x2 : Vec F S1x256x512 .f32) (x3 : Vec F S1x256x1024 .f32) (x4 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0 x0 x1 x2 x3 x4) ∗ owns (c : Thread nD τ) arg8 fullShare (first0 x0 x1 x2 x3 x4)) -∗ K ⟨⟩))
      ⊢ wp frame (wpE (defs₀ (F := F)) Variants.none c none) E (cc0__stage1_body i arg2 harg2 arg3 harg3 arg4 harg4 arg5 harg5 arg6 harg6 arg7 harg7 arg8 harg8) K := by
  simp only [cc0__stage1_body_eq_skeleton]; unfold cc0__stage1_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

set_option maxHeartbeats 2000000 in
/-- The body at a later point: the sums are added to what the window held. -/
theorem sound0B (c : Dev nD) (E : Set ℕ) (i : grid0.Coords) (arg2 : Memref sig .tc .vmem S1x512x8 .f32) (harg2 : arg2.IsWhole) (arg3 : Memref sig .tc .vmem S1x1024x8 .f32) (harg3 : arg3.IsWhole) (arg4 : Memref sig .tc .vmem S1x256x512 .f32) (harg4 : arg4.IsWhole) (arg5 : Memref sig .tc .vmem S1x256x1024 .f32) (harg5 : arg5.IsWhole) (arg6 : Memref sig .tc .vmem S512x512 .f32) (harg6 : arg6.IsWhole) (arg7 : Memref sig .tc .vmem S1x512x512 .f32) (harg7 : arg7.IsWhole) (arg8 : Memref sig .tc .vmem S2x512 .f32) (harg8 : arg8.IsWhole) (hc0 : ¬k0_cond1 i = 1#1) (hc1 : k0_cond2 i = 1#1)
    (x0 : Vec F S1x512x8 .f32) (x1 : Vec F S1x1024x8 .f32) (x2 : Vec F S1x256x512 .f32) (x3 : Vec F S1x256x1024 .f32) (x4 : Vec F S512x512 .f32) (xo : Vec F S2x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0 x0 x1 x2 x3 x4) ∗ owns (c : Thread nD τ) arg8 fullShare (next0 x0 x1 x2 x3 x4 xo)) -∗ K ⟨⟩))
      ⊢ wp frame (wpE (defs₀ (F := F)) Variants.none c none) E (cc0__stage1_body i arg2 harg2 arg3 harg3 arg4 harg4 arg5 harg5 arg6 harg6 arg7 harg7 arg8 harg8) K := by
  simp only [cc0__stage1_body_eq_skeleton]; unfold cc0__stage1_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The proof data -/

/-- What the sums' window holds after position `n`: the first point's sums, then each point's added to what was there. -/
def stat0 (c : Dev nD) : (n : ℕ) → n < cfg0.N → Vec F S2x512 .f32
  | 0, hn => first0 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => next0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (stat0 c n (Nat.lt_of_succ_lt hn))

/-- At grid point 0 the sums block holds that block's own sums. -/
theorem stat0_zero (c : Dev nD) (t : Fin cfg0.N) (h : t.val = 0) :
    stat0 V c t.val t.isLt = first0 (iblk0 V c 0 t) (iblk0 V c 1 t) (iblk0 V c 2 t) (iblk0 V c 3 t) (iblk0 V c 4 t) := by
  obtain ⟨n, hn⟩ := t
  cases n with
  | zero => rfl
  | succ n => exact absurd h (Nat.succ_ne_zero n)
/-- At a later grid point the sums block holds its earlier content plus that block's own sums. -/
theorem stat0_succ (c : Dev nD) (t : Fin cfg0.N) (h : t.val ≠ 0) :
    stat0 V c t.val t.isLt = next0 (iblk0 V c 0 t) (iblk0 V c 1 t) (iblk0 V c 2 t) (iblk0 V c 3 t) (iblk0 V c 4 t) (stat0 V c (t.val - 1) (Nat.lt_of_le_of_lt (Nat.sub_le _ _) t.isLt)) := by
  obtain ⟨n, hn⟩ := t
  cases n with
  | zero => exact absurd rfl h
  | succ n => rfl

/-- The proof data of pipeline 0: inputs at their blocks, the output at its block's contents, the sums at their running value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
    | ⟨6, _⟩ => stat0 V c t.val t.isLt
  Φ _ := Pipeline.ΦA spec0 c
  q _ := fullShare
  owed _ := 0

/-- The data's array of a window is the contents at entry. -/
theorem A_eq0 (c : Dev nD) (w : Fin cfg0.W) : (dat0 V c).A w = V c (Pipeline.arrRef spec0 w) := by
  dsimp only [dat0]
/-- What the body leaves in this window's block. -/
theorem after0_0 (c : Dev nD) (t : Fin cfg0.N) : (dat0 V c).after 0 t = iblk0 V c 0 t := by dsimp only [dat0]
/-- What the body leaves in this window's block. -/
theorem after0_1 (c : Dev nD) (t : Fin cfg0.N) : (dat0 V c).after 1 t = iblk0 V c 1 t := by dsimp only [dat0]
/-- What the body leaves in this window's block. -/
theorem after0_2 (c : Dev nD) (t : Fin cfg0.N) : (dat0 V c).after 2 t = iblk0 V c 2 t := by dsimp only [dat0]
/-- What the body leaves in this window's block. -/
theorem after0_3 (c : Dev nD) (t : Fin cfg0.N) : (dat0 V c).after 3 t = iblk0 V c 3 t := by dsimp only [dat0]
/-- What the body leaves in this window's block. -/
theorem after0_4 (c : Dev nD) (t : Fin cfg0.N) : (dat0 V c).after 4 t = iblk0 V c 4 t := by dsimp only [dat0]
/-- What the body leaves in this window's block. -/
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]
/-- What the body leaves in this window's block. -/
theorem after0_6 (c : Dev nD) (t : Fin cfg0.N) : (dat0 V c).after 6 t = stat0 V c t.val t.isLt := by dsimp only [dat0]
/-- What the body finds in this window's block: its array's block. -/
theorem before0_0 (c : Dev nD) (t : Fin cfg0.N) (d) : (dat0 V c).before 0 t d = iblk0 V c 0 t :=
  before0_0_of V (dat0 V c) (A_eq0 V c 0) (after0_0 V c) t d
/-- What the body finds in this window's block: its array's block. -/
theorem before0_1 (c : Dev nD) (t : Fin cfg0.N) (d) : (dat0 V c).before 1 t d = iblk0 V c 1 t :=
  before0_1_of V (dat0 V c) (A_eq0 V c 1) (after0_1 V c) t d
/-- What the body finds in this window's block: its array's block. -/
theorem before0_2 (c : Dev nD) (t : Fin cfg0.N) (d) : (dat0 V c).before 2 t d = iblk0 V c 2 t :=
  before0_2_of V (dat0 V c) (A_eq0 V c 2) (after0_2 V c) t d
/-- What the body finds in this window's block: its array's block. -/
theorem before0_3 (c : Dev nD) (t : Fin cfg0.N) (d) : (dat0 V c).before 3 t d = iblk0 V c 3 t :=
  before0_3_of V (dat0 V c) (A_eq0 V c 3) (after0_3 V c) t d
/-- What the body finds in this window's block: its array's block. -/
theorem before0_4 (c : Dev nD) (t : Fin cfg0.N) (d) : (dat0 V c).before 4 t d = iblk0 V c 4 t :=
  before0_4_of V (dat0 V c) (A_eq0 V c 4) (after0_4 V c) t d

/-- The sums' window is stored into at every point. -/
theorem live0_6 : ∀ t : Fin cfg0.N, cfg0.idle 6 (grid0.coords t) = false :=
  (by decide +kernel : ∀ t : Fin grid0.N, cfg0.idle 6 (grid0.coords t) = false)
/-- Its buffer is fresh before the first point and after the write-back at the last, and nowhere between. -/
def fresh0 : ℕ → Bool
  | 0 => true
  | n + 1 => n == 127
/-- The sums window is fresh at the next point when it is written back at this one, or when it is fresh and idle at this one. -/
theorem fresh0_step : ∀ t : Fin cfg0.N,
    fresh0 (t.val + 1) = ((cfg0.win 6).flush t || (cfg0.idle 6 (cfg0.grid.coords t) && fresh0 t.val)) := by decide +kernel
/-- The sums window's freshness, as a function of the grid point's number. -/
theorem fresh0_eq (t : Fin cfg0.N) : cfg0.fresh 6 t.val = fresh0 t.val :=
  Pipeline.Cfg.fresh_tab cfg0 6 fresh0 rfl fresh0_step t.val (Nat.le_of_lt t.isLt)
/-- The sums window is not fresh at any grid point but the first. -/
theorem notFresh0 (t : Fin cfg0.N) (h : t.val ≠ 0) : cfg0.fresh 6 t.val = false := by
  rw [fresh0_eq t]; revert t; decide +kernel
/-- At a point where the sums window were idle it would keep its content; it is idle at none. -/
theorem carry0 (c : Dev nD) : ∀ (t : Fin cfg0.N) (_ : t.val ≠ 0), cfg0.idle 6 (grid0.coords t) = true → cfg0.fresh 6 t.val = false →
    (dat0 V c).after 6 t = (dat0 V c).after 6 ⟨t.val - 1, by omega⟩ := by
  intro t _ hi _
  rw [live0_6 t] at hi
  exact absurd hi Bool.false_ne_true
/-- At a later point the sums' buffer holds what the point before left. -/
theorem before0_6 (c : Dev nD) (t : Fin cfg0.N) (h : t.val ≠ 0) (d) :
    (dat0 V c).before 6 t d = stat0 V c (t.val - 1) (Nat.lt_of_le_of_lt (Nat.sub_le _ _) t.isLt) := by
  rw [Dat.before_out_traj _ 6 rfl (fun _ _ => rfl) (carry0 V c) t.val t rfl d,
    if_neg (by rw [notFresh0 t h]; exact Bool.false_ne_true)]
  dsimp only [dat0]

/-! ## The body obligation -/

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))
/-- What it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- What the body leaves for this window, in the form the pipeline asks for. -/
theorem leaves0_0 (c : Dev nD) (t : Fin cfg0.N) :
    (dat0 V c).leavesExact 0 t = owns (c : Thread nD τ) (st0_0 t) fullShare ((dat0 V c).after 0 t) := by
  unfold Dat.leavesExact; rw [show cfg0.idle 0 (grid0.coords t) = false from by rfl]
/-- What the body leaves for this window, in the form the pipeline asks for. -/
theorem leaves0_1 (c : Dev nD) (t : Fin cfg0.N) :
    (dat0 V c).leavesExact 1 t = owns (c : Thread nD τ) (st0_1 t) fullShare ((dat0 V c).after 1 t) := by
  unfold Dat.leavesExact; rw [show cfg0.idle 1 (grid0.coords t) = false from by rfl]
/-- What the body leaves for this window, in the form the pipeline asks for. -/
theorem leaves0_2 (c : Dev nD) (t : Fin cfg0.N) :
    (dat0 V c).leavesExact 2 t = owns (c : Thread nD τ) (st0_2 t) fullShare ((dat0 V c).after 2 t) := by
  unfold Dat.leavesExact; rw [show cfg0.idle 2 (grid0.coords t) = false from by rfl]
/-- What the body leaves for this window, in the form the pipeline asks for. -/
theorem leaves0_3 (c : Dev nD) (t : Fin cfg0.N) :
    (dat0 V c).leavesExact 3 t = owns (c : Thread nD τ) (st0_3 t) fullShare ((dat0 V c).after 3 t) := by
  unfold Dat.leavesExact; rw [show cfg0.idle 3 (grid0.coords t) = false from by rfl]
/-- What the body leaves for this window, in the form the pipeline asks for. -/
theorem leaves0_4 (c : Dev nD) (t : Fin cfg0.N) :
    (dat0 V c).leavesExact 4 t = owns (c : Thread nD τ) (st0_4 t) fullShare ((dat0 V c).after 4 t) := by
  unfold Dat.leavesExact; rw [show cfg0.idle 4 (grid0.coords t) = false from by rfl]
/-- What the body leaves for this window, in the form the pipeline asks for. -/
theorem leaves0_5 (c : Dev nD) (t : Fin cfg0.N) :
    (dat0 V c).leavesExact 5 t = owns (c : Thread nD τ) (st0_5 t) fullShare ((dat0 V c).after 5 t) := by
  unfold Dat.leavesExact; rw [show cfg0.idle 5 (grid0.coords t) = false from by rfl]
/-- What the body leaves for this window, in the form the pipeline asks for. -/
theorem leaves0_6 (c : Dev nD) (t : Fin cfg0.N) :
    (dat0 V c).leavesExact 6 t = owns (c : Thread nD τ) (st0_6 t) fullShare ((dat0 V c).after 6 t) := by
  unfold Dat.leavesExact; rw [show cfg0.idle 6 (grid0.coords t) = false from live0_6 t]

set_option maxHeartbeats 800000 in
/-- The body at any point. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    leaves0_0, leaves0_1, leaves0_2, leaves0_3, leaves0_4, leaves0_5, leaves0_6,
    after0_0, after0_1, after0_2, after0_3, after0_4, after0_5, after0_6]
  by_cases h0 : t.val = 0
  · rw [stat0_zero V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound0A c Set.univ (grid0.coords t) _ _ _ _ _ _ _ _ _ _ _ _ _ _ ((cond0_first t).mpr h0) (fun h => (cond0_later t).mp h h0) (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [stat0_succ V c t h0]
    simp only [before0_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound0B c Set.univ (grid0.coords t) _ _ _ _ _ _ _ _ _ _ _ _ _ _ (fun h => h0 ((cond0_first t).mp h)) ((cond0_later t).mpr h0) (iblk0 V c 0 t) (iblk0 V c 1 t) (iblk0 V c 2 t) (iblk0 V c 3 t) (iblk0 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The call runs, at a grid point, the body on that point's blocks. -/
theorem row0 (t : Fin cfg0.N) :
    defs₀ (F := F) .tc cfg0.body (cfg0.bodyArgs t (cfg0.slots t)) = bodyAt0 t := by
  unfold defs₀; rw [Defs.onTc_tc]

/-- The library's body obligation for pipeline 0. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.KernelIdeal.Own

end
-- ==== Proof.KernelIdeal.Stage2.lean ====
/- The second pallas_call of `kernel`: its body at every grid point, over any contents at entry. The window of sums keeps its contents from point to point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block at every point, for any proof data that enters with the array and leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input 1's buffer holds its block at every point, for any proof data that enters with the array and leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input 2's buffer holds its block at every point, for any proof data that enters with the array and leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input 3's buffer holds its block at every point, for any proof data that enters with the array and leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input 4's buffer holds its block at every point, for any proof data that enters with the array and leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window -/

abbrev rA1 : Rect S2x512 := Rect.unit (s := S2x512) ![0, 0] S1x512.size inb_S2x512_S1x512_0_0
abbrev rB1 : Rect S2x512 := Rect.unit (s := S2x512) ![1, 0] S1x512.size inb_S2x512_S1x512_1_0
abbrev rG1 : Rect S1x512 := Rect.unit (s := S1x512) ![0, 0] S1x512.size inb_S1x512_S1x512_0_0
abbrev rY1 : Rect S1x512x512 := Rect.unit (s := S1x512x512) ![0, 0, 0] S1x512x512.size inb_S1x512x512_S1x512x512_0_0_0
abbrev rW1 : Rect S256x512 := Rect.unit (s := S256x512) ![0, 0] S256x512.size inb_S256x512_S256x512_0_0
abbrev rO1 : Rect S1x256x512 := Rect.unit (s := S1x256x512) ![0, 0, 0] S1x256x512.size inb_S1x256x512_S1x256x512_0_0_0
abbrev rS1 : Rect S2x256 := Rect.unit (s := S2x256) ![0, 0] S2x256.size inb_S2x256_S2x256_0_0

/-- The output block. -/
def out1 (x0 : Vec F S1x512x512 .f32) (x1 : Vec F S2x512 .f32) (x2 : Vec F S1x512 .f32) (x3 : Vec F S1x512 .f32) (x4 : Vec F S256x512 .f32) : Vec F S1x256x512 .f32 :=
  View.canon [⟨rO1, k1_pay4 (View.ld x1 rA1) (View.ld x1 rB1) (View.ld x2 rG1) (View.ld x3 rG1) (View.ld x0 rY1) (View.ld x4 rW1)⟩]
/-- The sums' block at the first point. -/
def first1 (x0 : Vec F S1x512x512 .f32) (x1 : Vec F S2x512 .f32) (x2 : Vec F S1x512 .f32) (x3 : Vec F S1x512 .f32) (x4 : Vec F S256x512 .f32) : Vec F S2x256 .f32 :=
  View.canon [⟨rS1, k1_pay1 (k1_pay3 (View.ld x1 rA1) (View.ld x1 rB1) (View.ld x2 rG1) (View.ld x3 rG1) (View.ld x0 rY1) (View.ld x4 rW1))⟩]
/-- The sums' block at a later point, over what it held. -/
def next1 (x0 : Vec F S1x512x512 .f32) (x1 : Vec F S2x512 .f32) (x2 : Vec F S1x512 .f32) (x3 : Vec F S1x512 .f32) (x4 : Vec F S256x512 .f32) (xo : Vec F S2x256 .f32) : Vec F S2x256 .f32 :=
  View.canon [⟨rS1, k1_pay2 (k1_pay3 (View.ld x1 rA1) (View.ld x1 rB1) (View.ld x2 rG1) (View.ld x3 rG1) (View.ld x0 rY1) (View.ld x4 rW1)) (View.ld xo rS1)⟩]

/-- The store covers the whole block. -/
theorem cover1_5 (p : Vec F S1x256x512 .f32) (y : S1x256x512.Idx) :
    ∃ pc ∈ ([⟨rO1, p⟩] : List (View.Piece (Elt F) S1x256x512 .f32)), y ∈ pc.1.set :=
  View.cover_of_tiled [⟨rO1, p⟩] S1x256x512.size (by rfl) y
/-- The store covers the whole block. -/
theorem cover1_6 (p : Vec F S2x256 .f32) (y : S2x256.Idx) :
    ∃ pc ∈ ([⟨rS1, p⟩] : List (View.Piece (Elt F) S2x256 .f32)), y ∈ pc.1.set :=
  View.cover_of_tiled [⟨rS1, p⟩] S2x256.size (by rfl) y

/-- The first conditional is taken at the first point only. -/
theorem cond1_first : ∀ t : Fin cfg1.N, k1_cond1 (grid1.coords t) = 1#1 ↔ t.val = 0 :=
  (by decide +kernel : ∀ t : Fin grid1.N, k1_cond1 (grid1.coords t) = 1#1 ↔ t.val = 0)
/-- The second conditional is taken at every later point. -/
theorem cond1_later : ∀ t : Fin cfg1.N, k1_cond2 (grid1.coords t) = 1#1 ↔ t.val ≠ 0 :=
  (by decide +kernel : ∀ t : Fin grid1.N, k1_cond2 (grid1.coords t) = 1#1 ↔ t.val ≠ 0)

set_option maxHeartbeats 2000000 in
/-- The body at the first point: the sums are stored as they are. -/
theorem sound1A (c : Dev nD) (E : Set ℕ) (i : grid1.Coords) (arg2 : Memref sig .tc .vmem S1x512x512 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S1x256x512 .f32) (harg7 : arg7.IsWhole) (arg8 : Memref sig .tc .vmem S2x256 .f32) (harg8 : arg8.IsWhole) (hc0 : k1_cond1 i = 1#1) (hc1 : ¬k1_cond2 i = 1#1)
    (x0 : Vec F S1x512x512 .f32) (x1 : Vec F S2x512 .f32) (x2 : Vec F S1x512 .f32) (x3 : Vec F S1x512 .f32) (x4 : Vec F S256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1 x0 x1 x2 x3 x4) ∗ owns (c : Thread nD τ) arg8 fullShare (first1 x0 x1 x2 x3 x4)) -∗ K ⟨⟩))
      ⊢ wp frame (wpE (defs₀ (F := F)) Variants.none c none) E (cc1__stage2_body i arg2 harg2 arg3 harg3 arg4 harg4 arg5 harg5 arg6 harg6 arg7 harg7 arg8 harg8) K := by
  simp only [cc1__stage2_body_eq_skeleton]; unfold cc1__stage2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

set_option maxHeartbeats 2000000 in
/-- The body at a later point: the sums are added to what the window held. -/
theorem sound1B (c : Dev nD) (E : Set ℕ) (i : grid1.Coords) (arg2 : Memref sig .tc .vmem S1x512x512 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S1x256x512 .f32) (harg7 : arg7.IsWhole) (arg8 : Memref sig .tc .vmem S2x256 .f32) (harg8 : arg8.IsWhole) (hc0 : ¬k1_cond1 i = 1#1) (hc1 : k1_cond2 i = 1#1)
    (x0 : Vec F S1x512x512 .f32) (x1 : Vec F S2x512 .f32) (x2 : Vec F S1x512 .f32) (x3 : Vec F S1x512 .f32) (x4 : Vec F S256x512 .f32) (xo : Vec F S2x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1 x0 x1 x2 x3 x4) ∗ owns (c : Thread nD τ) arg8 fullShare (next1 x0 x1 x2 x3 x4 xo)) -∗ K ⟨⟩))
      ⊢ wp frame (wpE (defs₀ (F := F)) Variants.none c none) E (cc1__stage2_body i arg2 harg2 arg3 harg3 arg4 harg4 arg5 harg5 arg6 harg6 arg7 harg7 arg8 harg8) K := by
  simp only [cc1__stage2_body_eq_skeleton]; unfold cc1__stage2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The proof data -/

/-- What the sums' window holds after position `n`: the first point's sums, then each point's added to what was there. -/
def stat1 (c : Dev nD) : (n : ℕ) → n < cfg1.N → Vec F S2x256 .f32
  | 0, hn => first1 (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn => next1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (stat1 c n (Nat.lt_of_succ_lt hn))

/-- At grid point 0 the sums block holds that block's own sums. -/
theorem stat1_zero (c : Dev nD) (t : Fin cfg1.N) (h : t.val = 0) :
    stat1 V c t.val t.isLt = first1 (iblk1 V c 0 t) (iblk1 V c 1 t) (iblk1 V c 2 t) (iblk1 V c 3 t) (iblk1 V c 4 t) := by
  obtain ⟨n, hn⟩ := t
  cases n with
  | zero => rfl
  | succ n => exact absurd h (Nat.succ_ne_zero n)
/-- At a later grid point the sums block holds its earlier content plus that block's own sums. -/
theorem stat1_succ (c : Dev nD) (t : Fin cfg1.N) (h : t.val ≠ 0) :
    stat1 V c t.val t.isLt = next1 (iblk1 V c 0 t) (iblk1 V c 1 t) (iblk1 V c 2 t) (iblk1 V c 3 t) (iblk1 V c 4 t) (stat1 V c (t.val - 1) (Nat.lt_of_le_of_lt (Nat.sub_le _ _) t.isLt)) := by
  obtain ⟨n, hn⟩ := t
  cases n with
  | zero => exact absurd rfl h
  | succ n => rfl

/-- The proof data of pipeline 1: inputs at their blocks, the output at its block's contents, the sums at their running value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
    | ⟨6, _⟩ => stat1 V c t.val t.isLt
  Φ _ := Pipeline.ΦA spec1 c
  q _ := fullShare
  owed _ := 0

/-- The data's array of a window is the contents at entry. -/
theorem A_eq1 (c : Dev nD) (w : Fin cfg1.W) : (dat1 V c).A w = V c (Pipeline.arrRef spec1 w) := by
  dsimp only [dat1]
/-- What the body leaves in this window's block. -/
theorem after1_0 (c : Dev nD) (t : Fin cfg1.N) : (dat1 V c).after 0 t = iblk1 V c 0 t := by dsimp only [dat1]
/-- What the body leaves in this window's block. -/
theorem after1_1 (c : Dev nD) (t : Fin cfg1.N) : (dat1 V c).after 1 t = iblk1 V c 1 t := by dsimp only [dat1]
/-- What the body leaves in this window's block. -/
theorem after1_2 (c : Dev nD) (t : Fin cfg1.N) : (dat1 V c).after 2 t = iblk1 V c 2 t := by dsimp only [dat1]
/-- What the body leaves in this window's block. -/
theorem after1_3 (c : Dev nD) (t : Fin cfg1.N) : (dat1 V c).after 3 t = iblk1 V c 3 t := by dsimp only [dat1]
/-- What the body leaves in this window's block. -/
theorem after1_4 (c : Dev nD) (t : Fin cfg1.N) : (dat1 V c).after 4 t = iblk1 V c 4 t := by dsimp only [dat1]
/-- What the body leaves in this window's block. -/
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]
/-- What the body leaves in this window's block. -/
theorem after1_6 (c : Dev nD) (t : Fin cfg1.N) : (dat1 V c).after 6 t = stat1 V c t.val t.isLt := by dsimp only [dat1]
/-- What the body finds in this window's block: its array's block. -/
theorem before1_0 (c : Dev nD) (t : Fin cfg1.N) (d) : (dat1 V c).before 0 t d = iblk1 V c 0 t :=
  before1_0_of V (dat1 V c) (A_eq1 V c 0) (after1_0 V c) t d
/-- What the body finds in this window's block: its array's block. -/
theorem before1_1 (c : Dev nD) (t : Fin cfg1.N) (d) : (dat1 V c).before 1 t d = iblk1 V c 1 t :=
  before1_1_of V (dat1 V c) (A_eq1 V c 1) (after1_1 V c) t d
/-- What the body finds in this window's block: its array's block. -/
theorem before1_2 (c : Dev nD) (t : Fin cfg1.N) (d) : (dat1 V c).before 2 t d = iblk1 V c 2 t :=
  before1_2_of V (dat1 V c) (A_eq1 V c 2) (after1_2 V c) t d
/-- What the body finds in this window's block: its array's block. -/
theorem before1_3 (c : Dev nD) (t : Fin cfg1.N) (d) : (dat1 V c).before 3 t d = iblk1 V c 3 t :=
  before1_3_of V (dat1 V c) (A_eq1 V c 3) (after1_3 V c) t d
/-- What the body finds in this window's block: its array's block. -/
theorem before1_4 (c : Dev nD) (t : Fin cfg1.N) (d) : (dat1 V c).before 4 t d = iblk1 V c 4 t :=
  before1_4_of V (dat1 V c) (A_eq1 V c 4) (after1_4 V c) t d

/-- The sums' window is stored into at every point. -/
theorem live1_6 : ∀ t : Fin cfg1.N, cfg1.idle 6 (grid1.coords t) = false :=
  (by decide +kernel : ∀ t : Fin grid1.N, cfg1.idle 6 (grid1.coords t) = false)
/-- Its buffer is fresh before the first point and after the write-back at the last, and nowhere between. -/
def fresh1 : ℕ → Bool
  | 0 => true
  | n + 1 => n == 127
/-- The sums window is fresh at the next point when it is written back at this one, or when it is fresh and idle at this one. -/
theorem fresh1_step : ∀ t : Fin cfg1.N,
    fresh1 (t.val + 1) = ((cfg1.win 6).flush t || (cfg1.idle 6 (cfg1.grid.coords t) && fresh1 t.val)) := by decide +kernel
/-- The sums window's freshness, as a function of the grid point's number. -/
theorem fresh1_eq (t : Fin cfg1.N) : cfg1.fresh 6 t.val = fresh1 t.val :=
  Pipeline.Cfg.fresh_tab cfg1 6 fresh1 rfl fresh1_step t.val (Nat.le_of_lt t.isLt)
/-- The sums window is not fresh at any grid point but the first. -/
theorem notFresh1 (t : Fin cfg1.N) (h : t.val ≠ 0) : cfg1.fresh 6 t.val = false := by
  rw [fresh1_eq t]; revert t; decide +kernel
/-- At a point where the sums window were idle it would keep its content; it is idle at none. -/
theorem carry1 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  rw [live1_6 t] at hi
  exact absurd hi Bool.false_ne_true
/-- At a later point the sums' buffer holds what the point before left. -/
theorem before1_6 (c : Dev nD) (t : Fin cfg1.N) (h : t.val ≠ 0) (d) :
    (dat1 V c).before 6 t d = stat1 V c (t.val - 1) (Nat.lt_of_le_of_lt (Nat.sub_le _ _) t.isLt) := by
  rw [Dat.before_out_traj _ 6 rfl (fun _ _ => rfl) (carry1 V c) t.val t rfl d,
    if_neg (by rw [notFresh1 t h]; exact Bool.false_ne_true)]
  dsimp only [dat1]

/-! ## The body obligation -/

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
/-- What it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- What the body leaves for this window, in the form the pipeline asks for. -/
theorem leaves1_0 (c : Dev nD) (t : Fin cfg1.N) :
    (dat1 V c).leavesExact 0 t = owns (c : Thread nD τ) (st1_0 t) fullShare ((dat1 V c).after 0 t) := by
  unfold Dat.leavesExact; rw [show cfg1.idle 0 (grid1.coords t) = false from by rfl]
/-- What the body leaves for this window, in the form the pipeline asks for. -/
theorem leaves1_1 (c : Dev nD) (t : Fin cfg1.N) :
    (dat1 V c).leavesExact 1 t = owns (c : Thread nD τ) (st1_1 t) fullShare ((dat1 V c).after 1 t) := by
  unfold Dat.leavesExact; rw [show cfg1.idle 1 (grid1.coords t) = false from by rfl]
/-- What the body leaves for this window, in the form the pipeline asks for. -/
theorem leaves1_2 (c : Dev nD) (t : Fin cfg1.N) :
    (dat1 V c).leavesExact 2 t = owns (c : Thread nD τ) (st1_2 t) fullShare ((dat1 V c).after 2 t) := by
  unfold Dat.leavesExact; rw [show cfg1.idle 2 (grid1.coords t) = false from by rfl]
/-- What the body leaves for this window, in the form the pipeline asks for. -/
theorem leaves1_3 (c : Dev nD) (t : Fin cfg1.N) :
    (dat1 V c).leavesExact 3 t = owns (c : Thread nD τ) (st1_3 t) fullShare ((dat1 V c).after 3 t) := by
  unfold Dat.leavesExact; rw [show cfg1.idle 3 (grid1.coords t) = false from by rfl]
/-- What the body leaves for this window, in the form the pipeline asks for. -/
theorem leaves1_4 (c : Dev nD) (t : Fin cfg1.N) :
    (dat1 V c).leavesExact 4 t = owns (c : Thread nD τ) (st1_4 t) fullShare ((dat1 V c).after 4 t) := by
  unfold Dat.leavesExact; rw [show cfg1.idle 4 (grid1.coords t) = false from by rfl]
/-- What the body leaves for this window, in the form the pipeline asks for. -/
theorem leaves1_5 (c : Dev nD) (t : Fin cfg1.N) :
    (dat1 V c).leavesExact 5 t = owns (c : Thread nD τ) (st1_5 t) fullShare ((dat1 V c).after 5 t) := by
  unfold Dat.leavesExact; rw [show cfg1.idle 5 (grid1.coords t) = false from by rfl]
/-- What the body leaves for this window, in the form the pipeline asks for. -/
theorem leaves1_6 (c : Dev nD) (t : Fin cfg1.N) :
    (dat1 V c).leavesExact 6 t = owns (c : Thread nD τ) (st1_6 t) fullShare ((dat1 V c).after 6 t) := by
  unfold Dat.leavesExact; rw [show cfg1.idle 6 (grid1.coords t) = false from live1_6 t]

set_option maxHeartbeats 800000 in
/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6,
    after1_0, after1_1, after1_2, after1_3, after1_4, after1_5, after1_6]
  by_cases h0 : t.val = 0
  · rw [stat1_zero V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound1A c Set.univ (grid1.coords t) _ _ _ _ _ _ _ _ _ _ _ _ _ _ ((cond1_first t).mpr h0) (fun h => (cond1_later t).mp h h0) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [stat1_succ V c t h0]
    simp only [before1_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound1B c Set.univ (grid1.coords t) _ _ _ _ _ _ _ _ _ _ _ _ _ _ (fun h => h0 ((cond1_first t).mp h)) ((cond1_later t).mpr h0) (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The call runs, at a grid point, the body on that point's blocks. -/
theorem row1 (t : Fin cfg1.N) :
    defs₀ (F := F) .tc cfg1.body (cfg1.bodyArgs t (cfg1.slots t)) = bodyAt1 t := by
  unfold defs₀; rw [Defs.onTc_tc]

/-- The library's body obligation for pipeline 1. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Own

end
-- ==== Proof.KernelIdeal.Stage3.lean ====
/- The third pallas_call of `kernel`: its body at every grid point, over any contents at entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2x256 := Rect.unit (s := S2x256) ![0, 0] S1x256.size inb_S2x256_S1x256_0_0
abbrev r2_1 : Rect S2x256 := Rect.unit (s := S2x256) ![1, 0] S1x256.size inb_S2x256_S1x256_1_0
abbrev r2_2 : Rect S1x256 := Rect.unit (s := S1x256) ![0, 0] S1x256.size inb_S1x256_S1x256_0_0
abbrev r2_3 : Rect S1x256x512 := Rect.unit (s := S1x256x512) ![0, 0, 0] S1x256x512.size inb_S1x256x512_S1x256x512_0_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1x256x512 .f32) (x1 : Vec F S2x256 .f32) (x2 : Vec F S1x256 .f32) (x3 : Vec F S1x256 .f32) : Vec F S1x256x512 .f32 :=
  View.canon [⟨r2_3, k2_pay1 (View.ld x1 r2_0) (View.ld x1 r2_1) (View.ld x2 r2_2) (View.ld x3 r2_2) (View.ld x0 r2_3)⟩]

/-- Its stores tile the buffer (checked by evaluation), so they cover it. -/
theorem cover2_4 (p0 : Vec F S1x256x512 .f32) (y : S1x256x512.Idx) :
    ∃ pc ∈ ([⟨r2_3, p0⟩] : List (View.Piece (Elt F) S1x256x512 .f32)), y ∈ pc.1.set :=
  View.cover_of_tiled [⟨r2_3, p0⟩] S1x256x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1x256x512 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x512 .f32) (harg6 : arg6.IsWhole)
    (x0 : Vec F S1x256x512 .f32) (x1 : Vec F S2x256 .f32) (x2 : Vec F S1x256 .f32) (x3 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__stage3_body i arg2 harg2 arg3 harg3 arg4 harg4 arg5 harg5 arg6 harg6) K := by
  simp only [cc2__stage3_body_eq_skeleton]; unfold cc2__stage3_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What the body leaves in this window's block. -/
theorem after2_1 (c : Dev nD) (t : Fin cfg2.N) : (dat2 V c).after 1 t = iblk2 V c 1 t := by dsimp only [dat2]
/-- What the body leaves in this window's block. -/
theorem after2_2 (c : Dev nD) (t : Fin cfg2.N) : (dat2 V c).after 2 t = iblk2 V c 2 t := by dsimp only [dat2]
/-- What the body leaves in this window's block. -/
theorem after2_3 (c : Dev nD) (t : Fin cfg2.N) : (dat2 V c).after 3 t = iblk2 V c 3 t := by dsimp only [dat2]
/-- What the body leaves in this window's block. -/
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What the body finds in this window's block: its array's block. -/
theorem before2_1 (c : Dev nD) (t : Fin cfg2.N) (d) : (dat2 V c).before 1 t d = iblk2 V c 1 t :=
  before2_1_of V (dat2 V c) (A_eq2 V c 1) (after2_1 V c) t d
/-- What the body finds in this window's block: its array's block. -/
theorem before2_2 (c : Dev nD) (t : Fin cfg2.N) (d) : (dat2 V c).before 2 t d = iblk2 V c 2 t :=
  before2_2_of V (dat2 V c) (A_eq2 V c 2) (after2_2 V c) t d
/-- What the body finds in this window's block: its array's block. -/
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.KernelIdeal.Run.lean ====
/- `kernel` as three calls among host operations: the buffers at every boundary, and the run to the end. -/
module

public import proofs.«01_k».proof.Proof.KernelIdeal.Stage1
public import proofs.«01_k».proof.Proof.KernelIdeal.Stage2
public import proofs.«01_k».proof.Proof.KernelIdeal.Stage3

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev written0 : List (Ref sig .tc) := [main_call0_c, main_call0_call0_v0, main_call0_v0, main_call0_c_0, main_call0_call1_v0, main_call0_v1]
/-- Every operation of `hostOps0` writes only references that `written0` lists. -/
theorem hostOps0_writes : (hostOps0 : List (HloOp τ sig (Elt F))).Forall fun op => op.writes ⊆ (written0.map (Proc.devRef (τ := τ) .tc)).toFinset :=
  StableHlo.forall_writes_sub_of_map rfl
/-- `hostOps0` writes none of the argument arrays (checked: each argument against each reference it writes). -/
theorem args_kept0 : ∀ a ∈ argRefs, a ∉ written0 := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev written1 : List (Ref sig .tc) := [main_call0_v3, main_call0_v4]
/-- Every operation of `hostOps1` writes only references that `written1` lists. -/
theorem hostOps1_writes : (hostOps1 : List (HloOp τ sig (Elt F))).Forall fun op => op.writes ⊆ (written1.map (Proc.devRef (τ := τ) .tc)).toFinset :=
  StableHlo.forall_writes_sub_of_map rfl
/-- `hostOps1` writes none of the argument arrays (checked: each argument against each reference it writes). -/
theorem args_kept1 : ∀ a ∈ argRefs, a ∉ written1 := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev written2 : List (Ref sig .tc) := [main_call0_v6, main_call0_v7]
/-- Every operation of `hostOps2` writes only references that `written2` lists. -/
theorem hostOps2_writes : (hostOps2 : List (HloOp τ sig (Elt F))).Forall fun op => op.writes ⊆ (written2.map (Proc.devRef (τ := τ) .tc)).toFinset :=
  StableHlo.forall_writes_sub_of_map rfl
/-- `hostOps2` writes none of the argument arrays (checked: each argument against each reference it writes). -/
theorem args_kept2 : ∀ a ∈ argRefs, a ∉ written2 := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The argument arrays hold at this stage what the launch memory holds. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ written0) : W1 m ρ c (Proc.devRef .tc r) = W0 m ρ c (Proc.devRef .tc r) :=
  StableHlo.after_of_writes_sub hostOps0 _ hostOps0_writes h
/-- The argument arrays hold at this stage what the launch memory holds. -/
theorem W1_args (c : Dev nD) : ∀ a ∈ argRefs, W1 m ρ c (Proc.devRef .tc a) = m ((c : Thread nD τ).loc a) :=
  fun a ha => (W1_of m ρ c a (args_kept0 a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- Each array of the call holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Every other reference keeps its contents across the call. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The argument arrays hold at this stage what the launch memory holds. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every reference that is no array of the call keeps its contents. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ written1) : W3 m ρ c (Proc.devRef .tc r) = W2 m ρ c (Proc.devRef .tc r) :=
  StableHlo.after_of_writes_sub hostOps1 _ hostOps1_writes h
/-- The argument arrays hold at this stage what the launch memory holds. -/
theorem W3_args (c : Dev nD) : ∀ a ∈ argRefs, W3 m ρ c (Proc.devRef .tc a) = m ((c : Thread nD τ).loc a) :=
  fun a ha => (W3_of m ρ c a (args_kept1 a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- Each array of the call holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- Every other reference keeps its contents across the call. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The argument arrays hold at this stage what the launch memory holds. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Every reference that is no array of the call keeps its contents. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ written2) : W5 m ρ c (Proc.devRef .tc r) = W4 m ρ c (Proc.devRef .tc r) :=
  StableHlo.after_of_writes_sub hostOps2 _ hostOps2_writes h
/-- The argument arrays hold at this stage what the launch memory holds. -/
theorem W5_args (c : Dev nD) : ∀ a ∈ argRefs, W5 m ρ c (Proc.devRef .tc a) = m ((c : Thread nD τ).loc a) :=
  fun a ha => (W5_of m ρ c a (args_kept2 a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
/-- Each array of the call holds what the call leaves in it. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- Every other reference keeps its contents across the call. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The argument arrays hold at this stage what the launch memory holds. -/
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
/-- Every reference that is no array of the call keeps its contents. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
/-- This argument ends as it was at launch. -/
theorem W6_main_arg1 (c : Dev nD) : W6 m ρ c (Proc.devRef .tc main_arg1) = m ((c : Thread nD τ).loc main_arg1) :=
  W6_args m ρ c main_arg1 (by decide)
/-- This argument ends as it was at launch. -/
theorem W6_main_arg2 (c : Dev nD) : W6 m ρ c (Proc.devRef .tc main_arg2) = m ((c : Thread nD τ).loc main_arg2) :=
  W6_args m ρ c main_arg2 (by decide)
/-- This argument ends as it was at launch. -/
theorem W6_main_arg3 (c : Dev nD) : W6 m ρ c (Proc.devRef .tc main_arg3) = m ((c : Thread nD τ).loc main_arg3) :=
  W6_args m ρ c main_arg3 (by decide)
/-- This argument ends as it was at launch. -/
theorem W6_main_arg4 (c : Dev nD) : W6 m ρ c (Proc.devRef .tc main_arg4) = m ((c : Thread nD τ).loc main_arg4) :=
  W6_args m ρ c main_arg4 (by decide)
/-- This argument ends as it was at launch. -/
theorem W6_main_arg5 (c : Dev nD) : W6 m ρ c (Proc.devRef .tc main_arg5) = m ((c : Thread nD τ).loc main_arg5) :=
  W6_args m ρ c main_arg5 (by decide)
/-- This argument ends as it was at launch. -/
theorem W6_main_arg6 (c : Dev nD) : W6 m ρ c (Proc.devRef .tc main_arg6) = m ((c : Thread nD τ).loc main_arg6) :=
  W6_args m ρ c main_arg6 (by decide)
/-- This argument ends as it was at launch. -/
theorem W6_main_arg7 (c : Dev nD) : W6 m ρ c (Proc.devRef .tc main_arg7) = m ((c : Thread nD τ).loc main_arg7) :=
  W6_args m ρ c main_arg7 (by decide)
/-- This argument ends as it was at launch. -/
theorem W6_main_arg8 (c : Dev nD) : W6 m ρ c (Proc.devRef .tc main_arg8) = m ((c : Thread nD τ).loc main_arg8) :=
  W6_args m ρ c main_arg8 (by decide)
/-- This argument ends as it was at launch. -/
theorem W6_main_arg9 (c : Dev nD) : W6 m ρ c (Proc.devRef .tc main_arg9) = m ((c : Thread nD τ).loc main_arg9) :=
  W6_args m ρ c main_arg9 (by decide)
/-- This argument ends as it was at launch. -/
theorem W6_main_arg10 (c : Dev nD) : W6 m ρ c (Proc.devRef .tc main_arg10) = m ((c : Thread nD τ).loc main_arg10) :=
  W6_args m ρ c main_arg10 (by decide)
/-- This argument ends as it was at launch. -/
theorem W6_main_arg11 (c : Dev nD) : W6 m ρ c (Proc.devRef .tc main_arg11) = m ((c : Thread nD τ).loc main_arg11) :=
  W6_args m ρ c main_arg11 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution terminates, nothing faulting; the result is what the
    third call leaves, the arguments are as launched, and every semaphore counter is zero. -/
theorem run : θ_run defs (onTc (τ := τ) (main (F := F))) ⟨m, fun _ => 0, ρ⟩ (fun r => (∀ c : Dev nD,
      r.2.mem ((c.tc : Thread nD τ).loc main_v0) = (dat2 (V5 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v0 (by decide))).trans (W6_arr m ρ c 4),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩), funext fun g => hz g (.inr (no_unscoped g.2))⟩)

/-- The frame: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h.1 c).2, h.2⟩) (run m ρ)

end Cert.KernelIdeal.Own

end
-- ==== Proof.Value.Nearest.lean ====
/- The three nearest points of a row of distances: repeated minimum with the first position, and the head of a stable sort, pick the same positions. -/
module

public import Idealize.ShloMosaic.PureOps.Ideal
public import Idealize.ShloMosaic.PureOps.Ideal.Laws
public import Idealize.ShloMosaic.Lib.SortPrefix

@[expose] public section

noncomputable section

namespace Cert.Val

open Idealize.ShloMosaic

/-! ## The first position of the minimum -/

theorem minimisers_nonempty {n : ℕ} [NeZero n] (f : Fin n → EReal) : (Finset.univ.filter fun i => ∀ j, f i ≤ f j).Nonempty := by
  obtain ⟨i, -, hi⟩ := Finset.exists_min_image (Finset.univ : Finset (Fin n)) f ⟨0, Finset.mem_univ _⟩
  exact ⟨i, Finset.mem_filter.mpr ⟨Finset.mem_univ _, fun j => hi j (Finset.mem_univ _)⟩⟩

/-- The least position at which `f` takes its least value. -/
def first {n : ℕ} [NeZero n] (f : Fin n → EReal) : Fin n :=
  (Finset.univ.filter fun i => ∀ j, f i ≤ f j).min' (minimisers_nonempty f)

/-- The value at the first minimum is a lower bound. -/
theorem first_le {n : ℕ} [NeZero n] (f : Fin n → EReal) (j : Fin n) : f (first f) ≤ f j :=
  (Finset.mem_filter.mp (Finset.min'_mem _ (minimisers_nonempty f))).2 j

/-- A position with the least value is not before the first minimum. -/
theorem first_least {n : ℕ} [NeZero n] (f : Fin n → EReal) (i : Fin n) (h : f i ≤ f (first f)) : first f ≤ i :=
  Finset.min'_le _ _ (Finset.mem_filter.mpr ⟨Finset.mem_univ _, fun j => h.trans (first_le f j)⟩)

attribute [irreducible] first

/-- The minimum over all positions is the value at the first minimum. -/
theorem fold_min_eq {n : ℕ} [NeZero n] (f : Fin n → EReal) : Finset.fold min ⊤ f Finset.univ = f (first f) := by
  apply le_antisymm
  · exact Finset.fold_min_le _ |>.mpr (Or.inr ⟨first f, Finset.mem_univ _, le_rfl⟩)
  · exact Finset.le_fold_min _ |>.mpr ⟨le_top, fun j _ => first_le f j⟩

/-- The signed minimum of two words, read as an integer, is the minimum of the two integers. -/
theorem toInt_minsi (x y : BitVec 32) : (IntOp.minsi x y).toInt = min x.toInt y.toInt := by
  unfold IntOp.minsi
  rw [BitVec.slt]
  by_cases h : x.toInt < y.toInt
  · simp [h, min_eq_left h.le]
  · simp [h, min_eq_right (not_lt.mp h)]

/-- The word of a number below `2 ^ 31`, read as a signed integer, is that number. -/
theorem toInt_ofNat (k : ℕ) (h : k < 2 ^ 31) : (BitVec.ofNat 32 k).toInt = k := by
  have h' : (BitVec.ofNat 32 k).toNat = k := by
    rw [BitVec.toNat_ofNat]
    exact Nat.mod_eq_of_lt (by omega)
  rw [BitVec.toInt_eq_toNat_of_lt (by rw [h']; omega), h']

/-- The least position number among those holding the least value is the first minimum's. -/
theorem fold_position (f : Fin 1024 → EReal) :
    Finset.fold IntOp.minsi (2147483647#32) (fun k : Fin 1024 => if f k = f (first f) then BitVec.ofNat 32 k.val else 1024#32) Finset.univ
      = BitVec.ofNat 32 (first f).val := by
  apply BitVec.eq_of_toInt_eq
  have hq := toInt_ofNat (first f).val (by omega)
  rw [← Finset.fold_hom (op' := min) (m := BitVec.toInt) toInt_minsi, hq]
  apply le_antisymm
  · refine (Finset.fold_min_le _).mpr (Or.inr ⟨first f, Finset.mem_univ _, ?_⟩)
    rw [if_pos rfl, hq]
  · refine (Finset.le_fold_min _).mpr ⟨?_, fun k _ => ?_⟩
    · have : (2147483647#32 : BitVec 32).toInt = 2147483647 := by decide
      rw [this]; omega
    · split
      · rename_i h
        rw [toInt_ofNat k.val (by omega)]
        exact_mod_cast first_least f k h.le
      · have : (1024#32 : BitVec 32).toInt = 1024 := by decide
        rw [this]; omega

/-- Comparing a position number with the first minimum's marks that position alone. -/
theorem mark_first (f : Fin 1024 → EReal) (s : Fin 1024) :
    IntOp.cmpi CmpIPredicate.eq (BitVec.ofNat 32 s.val) (BitVec.ofNat 32 (first f).val) = if s = first f then 1#1 else 0#1 := by
  have h : BitVec.ofNat 32 s.val = BitVec.ofNat 32 (first f).val ↔ s = first f := by
    constructor
    · intro e
      have := congrArg BitVec.toInt e
      rw [toInt_ofNat _ (by omega), toInt_ofNat _ (by omega)] at this
      exact Fin.ext (by exact_mod_cast this)
    · rintro rfl; rfl
  by_cases e : s = first f
  · rw [if_pos e, e]; simp [IntOp.cmpi]
  · rw [if_neg e]
    have := mt h.mp e
    rw [IntOp.cmpi, beq_eq_false_iff_ne.mpr this]
    rfl

/-! ## Three rounds -/

/-- `f` with its first minimum masked by `⊤`. -/
def masked {n : ℕ} [NeZero n] (f : Fin n → EReal) : Fin n → EReal := fun s => if s = first f then ⊤ else f s

/-- The three positions picked: the first minimum, then twice that of what is left. -/
def pick {n : ℕ} [NeZero n] (f : Fin n → EReal) : Fin 3 → Fin n := ![first f, first (masked f), first (masked (masked f))]

/-- Among at least three positions there is one that differs from two given ones. -/
theorem exists_other {n : ℕ} (h : 3 ≤ n) (a b : Fin n) : ∃ s : Fin n, s ≠ a ∧ s ≠ b := by
  have hc : ({a, b} : Finset (Fin n)).card < (Finset.univ : Finset (Fin n)).card := by
    rw [Finset.card_univ, Fintype.card_fin]
    exact lt_of_le_of_lt Finset.card_le_two (by omega)
  obtain ⟨s, -, hs⟩ := Finset.exists_mem_notMem_of_card_lt_card hc
  simp only [Finset.mem_insert, Finset.mem_singleton, not_or] at hs
  exact ⟨s, hs⟩

variable {n : ℕ} [NeZero n] (f : Fin n → EReal) (hn : 3 ≤ n) (hf : ∀ s, f s < ⊤)

include hn hf in
theorem second_ne : first (masked f) ≠ first f := by
  intro e
  obtain ⟨s, hs, -⟩ := exists_other hn (first f) (first f)
  have h := first_le (masked f) s
  rw [e] at h
  simp only [masked, if_true, if_neg hs] at h
  exact absurd (hf s) (not_lt.mpr h)

include hn hf in
theorem third_ne : first (masked (masked f)) ≠ first f ∧ first (masked (masked f)) ≠ first (masked f) := by
  obtain ⟨s, hs, hs'⟩ := exists_other hn (first f) (first (masked f))
  have h := first_le (masked (masked f)) s
  have hv : masked (masked f) s = f s := by
    rw [masked, if_neg hs', masked, if_neg hs]
  rw [hv] at h
  constructor
  · intro e
    rw [masked, e, if_neg (second_ne f hn hf).symm, masked, if_pos rfl] at h
    exact absurd (hf s) (not_lt.mpr h)
  · intro e
    rw [masked, if_pos e] at h
    exact absurd (hf s) (not_lt.mpr h)

include hn hf in
/-- The second round's minimum is the distance at the position it picks. -/
theorem masked_second : masked f (first (masked f)) = f (first (masked f)) := by
  rw [masked, if_neg (second_ne f hn hf)]

include hn hf in
/-- The third round's minimum is the distance at the position it picks. -/
theorem masked_third : masked (masked f) (first (masked (masked f))) = f (first (masked (masked f))) := by
  rw [masked, if_neg (third_ne f hn hf).2, masked, if_neg (third_ne f hn hf).1]

include hn hf in
theorem pick_injective : Function.Injective (pick f) := by
  have h1 := second_ne f hn hf
  have h2 := third_ne f hn hf
  intro i j
  fin_cases i <;> fin_cases j <;> simp [pick, h1, h1.symm, h2.1, h2.1.symm, h2.2, h2.2.symm]

/-! ## The head of a stable sort -/

/-- Before: a smaller distance, or the same distance and an earlier position. -/
def nearer (k k' : Fin n) : Bool := decide (f k < f k') || (decide (f k = f k') && decide (k < k'))

omit [NeZero n] in
theorem nearer_total : StrictTotalBefore (nearer f) :=
  StrictTotalBefore.of_key_then_position (fun a b : EReal => decide (a < b)) f (by simp)
    (fun a b c h h' => by simp only [decide_eq_true_eq] at *; exact h.trans h')
    (fun a b => by simp only [decide_eq_true_eq]; exact lt_trichotomy a b)

/-- A stable sort of an increasing list by the distance alone is the sort by the distance and then the position. -/
theorem stableSort_nearer {m : ℕ} (g : Fin m → EReal) (l : List (Fin m)) (hl : l.Pairwise (· < ·)) :
    stableSort (fun k k' => decide (g k < g k')) l = stableSort (nearer g) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [nearer, not_lt.mpr hab.le]

/-- Sorting by the keys alone, stably, is sorting by the keys and then the positions. -/
theorem sortedFrom_nearer {m : ℕ} (g : Fin m → EReal) :
    sortedFrom (fun k k' => decide (g k < g k')) = sortedFrom (nearer g) := by
  funext k
  have h : sortPositions m (fun k k' => decide (g k < g k')) = sortPositions m (nearer g) :=
    stableSort_nearer g _ (List.pairwise_lt_finRange m)
  unfold sortedFrom
  rw [List.get_of_eq h]
  rfl

/-- A position is not before the first minimum. -/
theorem not_nearer_first (p : Fin n) : nearer f p (first f) = false := by
  have h := first_le f p
  by_cases e : f p = f (first f)
  · have := first_least f p e.le
    simp [nearer, e, not_lt.mpr this]
  · simp [nearer, not_lt.mpr h, e]

/-- A position that a mask leaves is not before the masked row's first minimum, in the row's own order. -/
theorem not_nearer_of_masked (g : Fin n → EReal) (p : Fin n) (hp : g p = f p) (hq : g (first g) = f (first g)) :
    nearer f p (first g) = false := by
  have := not_nearer_first g p
  unfold nearer at this ⊢
  rw [hp, hq] at this
  exact this

include hn hf in
/-- The three first positions of the stable sort by distance are the three picked. -/
theorem sortedFrom_eq_pick (r : Fin 3) : sortedFrom (fun k k' => decide (f k < f k')) (r.castLE hn) = pick f r := by
  rw [sortedFrom_nearer]
  have e1 := masked_second f hn hf
  have e2 := masked_third f hn hf
  have n1 := second_ne f hn hf
  have n2 := third_ne f hn hf
  have m1 : ∀ p, p ≠ first f → masked f p = f p := fun p hp => by rw [masked, if_neg hp]
  have m2 : ∀ p, p ≠ first f → p ≠ first (masked f) → masked (masked f) p = f p := fun p hp hp' => by
    rw [masked, if_neg hp', m1 p hp]
  refine (nearer_total f).sortedFrom_eq_of_prefix hn (pick f) (pick_injective f hn hf) ?_ ?_ r
  · intro i j hij
    fin_cases i <;> fin_cases j <;> first | exact absurd hij (by decide) | skip
    · exact not_nearer_first f _
    · exact not_nearer_first f _
    · exact not_nearer_of_masked f (masked f) _ (m1 _ n2.1) e1
  · intro i p hp
    have h0 : p ≠ first f := fun e => hp 0 e.symm
    have h1 : p ≠ first (masked f) := fun e => hp 1 e.symm
    have h2 : p ≠ first (masked (masked f)) := fun e => hp 2 e.symm
    fin_cases i
    · exact not_nearer_first f _
    · exact not_nearer_of_masked f (masked f) _ (m1 _ h0) e1
    · exact not_nearer_of_masked f (masked (masked f)) _ (m2 _ h0 h1) e2

end Cert.Val
-- ==== Proof.Value.Spec.lean ====
/- The real-valued account of the computation: distances, the three nearest points, weights, the two layers and their batch normalisations. -/
module

public import proofs.«01_k».proof.Proof.Value.Nearest
public import Idealize.ShloMosaic.Lib.IdealHost

@[expose] public section

noncomputable section

namespace Cert.Val

open Idealize.ShloMosaic

/-! ## The literals -/

/-- The real number the word of `1e-8` denotes. -/
def eps8 : ℝ := (Ideal.ofBits .f32 0x322BCC77#32).toReal
/-- The real number the word of `1e-5` denotes. -/
def eps5 : ℝ := (Ideal.ofBits .f32 0x3727C5AC#32).toReal

/-- The float32 nearest 1e-8, as a fraction. -/
theorem eps8_eq : Ideal.ofBits .f32 0x322BCC77#32 = (((11258999 : ℝ) / 2 ^ 50 : ℝ) : EReal) := by
  simp [Ideal.ofBits, Ideal.ieee, ← EReal.coe_mul]; norm_num
/-- The float32 nearest 1e-5, as a fraction. -/
theorem eps5_eq : Ideal.ofBits .f32 0x3727C5AC#32 = (((10995116 : ℝ) / 2 ^ 40 : ℝ) : EReal) := by
  simp [Ideal.ofBits, Ideal.ieee, ← EReal.coe_mul]; norm_num
/-- The literal added to a distance is the real number `eps8`. -/
theorem lit_eps8 : Ideal.ofBits .f32 0x322BCC77#32 = (eps8 : EReal) := by
  rw [eps8, eps8_eq, EReal.toReal_coe]
/-- The literal added to a variance is the real number `eps5`. -/
theorem lit_eps5 : Ideal.ofBits .f32 0x3727C5AC#32 = (eps5 : EReal) := by
  rw [eps5, eps5_eq, EReal.toReal_coe]
/-- `eps8` is positive. -/
theorem eps8_pos : 0 < eps8 := by rw [eps8, eps8_eq, EReal.toReal_coe]; positivity
/-- `eps5` is positive. -/
theorem eps5_pos : 0 < eps5 := by rw [eps5, eps5_eq, EReal.toReal_coe]; positivity
/-- The literal -2. -/
theorem lit_neg_two : Ideal.ofBits .f32 0xC0000000#32 = ((-2 : ℝ) : EReal) := by
  simp [Ideal.ofBits, Ideal.ieee, ← EReal.coe_mul]; norm_num
/-- The literal 65536, the number of points. -/
theorem lit_count : Ideal.ofBits .f32 0x47800000#32 = ((65536 : ℝ) : EReal) := by
  simp [Ideal.ofBits, Ideal.ieee, ← EReal.coe_mul]; norm_num
/-- The literal 1 / 65536, which float32 holds exactly. -/
theorem lit_inv_count : Ideal.ofBits .f32 0x37800000#32 = ((1 / 65536 : ℝ) : EReal) := by
  simp [Ideal.ofBits, Ideal.ieee, ← EReal.coe_mul]; norm_num
/-- The literal infinity. -/
theorem lit_inf : Ideal.ofBits .f32 0x7F800000#32 = ⊤ := by
  simp [Ideal.ofBits, Ideal.ieee]

/-! ## Sums and quotients of real numbers, among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of two real numbers is the same in the extended reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Division by a real number other than zero is real division. -/
theorem div_real (a b : ℝ) (h : b ≠ 0) : Ideal.div (a : EReal) (b : EReal) = ((a / b : ℝ) : EReal) := by
  rw [Ideal.div_coe h, ← EReal.coe_mul, mul_one_div]

/-- The square root of a positive real number is the real square root. -/
theorem sqrt_real (a : ℝ) (h : 0 < a) : Ideal.sqrt (a : EReal) = ((Real.sqrt a : ℝ) : EReal) := by
  rw [Ideal.sqrt_coe, if_neg (not_lt.mpr h.le)]

/-- The reciprocal square root of a positive real number is the real one. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

/-! ## Batch normalisation over 16 batches of 4096 points -/

/-- The mean of a channel over every batch and point. -/
def mean (y : Fin 16 → Fin 4096 → ℝ) : ℝ := (∑ b, ∑ n, y b n) / 65536
/-- The variance of a channel over every batch and point. -/
def var (y : Fin 16 → Fin 4096 → ℝ) : ℝ := (∑ b, ∑ n, (y b n - mean y) * (y b n - mean y)) / 65536

/-- A variance is not negative. -/
theorem var_nonneg (y : Fin 16 → Fin 4096 → ℝ) : 0 ≤ var y :=
  div_nonneg (Finset.sum_nonneg fun b _ => Finset.sum_nonneg fun n _ => mul_self_nonneg _) (by norm_num)

/-- A variance plus `eps5` is positive. -/
theorem var_eps_pos (y : Fin 16 → Fin 4096 → ℝ) : 0 < var y + eps5 := add_pos_of_nonneg_of_pos (var_nonneg y) eps5_pos

/-- The mean of the squares less the square of the mean is the variance. -/
theorem var_eq (y : Fin 16 → Fin 4096 → ℝ) :
    (∑ b, ∑ n, y b n * y b n) * (1 / 65536) - (∑ b, ∑ n, y b n) * (1 / 65536) * ((∑ b, ∑ n, y b n) * (1 / 65536)) = var y := by
  have h : ∀ μ : ℝ, (∑ b : Fin 16, ∑ n : Fin 4096, (y b n - μ) * (y b n - μ))
      = (∑ b, ∑ n, y b n * y b n) - 2 * μ * (∑ b, ∑ n, y b n) + 65536 * (μ * μ) := by
    intro μ
    have e : ∀ b n, (y b n - μ) * (y b n - μ) = y b n * y b n - 2 * μ * y b n + μ * μ := fun b n => by ring
    simp only [e, Finset.sum_add_distrib, Finset.sum_sub_distrib, ← Finset.mul_sum, Finset.sum_const, Finset.card_univ,
      Fintype.card_fin, nsmul_eq_mul]
    push_cast
    ring
  unfold var
  rw [h, mean]
  ring

/-- The mean as the kernel computes it: the sum times 1 / 65536. -/
theorem mean_eq (y : Fin 16 → Fin 4096 → ℝ) : (∑ b, ∑ n, y b n) * (1 / 65536) = mean y := by
  rw [mean]; ring

/-- Adding a constant to a channel moves its mean by the constant. -/
theorem mean_shift (y : Fin 16 → Fin 4096 → ℝ) (k : ℝ) : mean (fun b n => y b n + k) = mean y + k := by
  unfold mean
  simp only [Finset.sum_add_distrib, Finset.sum_const, Finset.card_univ, Fintype.card_fin, nsmul_eq_mul]
  push_cast
  ring

/-- Adding a constant to a channel leaves its variance. -/
theorem var_shift (y : Fin 16 → Fin 4096 → ℝ) (k : ℝ) : var (fun b n => y b n + k) = var y := by
  unfold var
  simp only [mean_shift, add_sub_add_right_eq_sub]

/-- A channel's entry, normalised and scaled. -/
def normed (y : Fin 16 → Fin 4096 → ℝ) (g : ℝ) (b : Fin 16) (n : Fin 4096) : ℝ :=
  (y b n - mean y) / Real.sqrt (var y + eps5) * g

/-! ## The arguments and the computation -/

/-- The arguments that must be finite, read as real numbers, and the last shift as it is. -/
structure Args where
  xyz1 : Fin 16 → Fin 4096 → Fin 3 → ℝ
  xyz2 : Fin 16 → Fin 1024 → Fin 3 → ℝ
  p1 : Fin 16 → Fin 256 → Fin 4096 → ℝ
  p2 : Fin 16 → Fin 256 → Fin 1024 → ℝ
  w1 : Fin 512 → Fin 512 → ℝ
  b1 : Fin 512 → ℝ
  g1 : Fin 512 → ℝ
  be1 : Fin 512 → ℝ
  w2 : Fin 256 → Fin 512 → ℝ
  b2 : Fin 256 → ℝ
  g2 : Fin 256 → ℝ
  be2 : Fin 256 → EReal

namespace Args

variable (A : Args)

/-- The squared distance of point `n` from source point `s`, expanded. -/
def dist (b : Fin 16) (n : Fin 4096) (s : Fin 1024) : ℝ :=
  -2 * (∑ k, A.xyz1 b n k * A.xyz2 b s k) + (∑ k, A.xyz1 b n k * A.xyz1 b n k) + ∑ k, A.xyz2 b s k * A.xyz2 b s k

/-- A squared distance is not negative. -/
theorem dist_nonneg (b : Fin 16) (n : Fin 4096) (s : Fin 1024) : 0 ≤ A.dist b n s := by
  have h : A.dist b n s = ∑ k, (A.xyz1 b n k - A.xyz2 b s k) ^ 2 := by
    unfold dist
    simp only [Fin.sum_univ_three]
    ring
  rw [h]
  exact Finset.sum_nonneg fun k _ => sq_nonneg _

/-- The row of distances from point `n`, as extended reals. -/
def row (b : Fin 16) (n : Fin 4096) : Fin 1024 → EReal := fun s => (A.dist b n s : EReal)

/-- Every distance of a row is below infinity. -/
theorem row_lt_top (b : Fin 16) (n : Fin 4096) (s : Fin 1024) : A.row b n s < ⊤ := EReal.coe_lt_top _

/-- The three nearest source points. -/
def near (b : Fin 16) (n : Fin 4096) : Fin 3 → Fin 1024 := pick (A.row b n)

/-- The nearest point is the first position of the row's minimum. -/
theorem near_zero (b : Fin 16) (n : Fin 4096) : A.near b n 0 = first (A.row b n) := by unfold near pick; rfl
/-- The second nearest is the first position of the minimum once the nearest is masked. -/
theorem near_one (b : Fin 16) (n : Fin 4096) : A.near b n 1 = first (masked (A.row b n)) := by unfold near pick; rfl
/-- The third nearest is the first position of the minimum once the two nearest are masked. -/
theorem near_two (b : Fin 16) (n : Fin 4096) : A.near b n 2 = first (masked (masked (A.row b n))) := by unfold near pick; rfl

/-- The reciprocal of the `r`-th nearest distance. -/
def recip (b : Fin 16) (n : Fin 4096) (r : Fin 3) : ℝ := 1 / (A.dist b n (A.near b n r) + eps8)

/-- A squared distance plus `eps8` is positive. -/
theorem dist_eps_pos (b : Fin 16) (n : Fin 4096) (s : Fin 1024) : 0 < A.dist b n s + eps8 :=
  add_pos_of_nonneg_of_pos (A.dist_nonneg b n s) eps8_pos

/-- The reciprocal of a distance is positive. -/
theorem recip_pos (b : Fin 16) (n : Fin 4096) (r : Fin 3) : 0 < A.recip b n r := one_div_pos.mpr (A.dist_eps_pos b n _)

/-- The sum of the three reciprocals. -/
def total (b : Fin 16) (n : Fin 4096) : ℝ := ∑ r, A.recip b n r

/-- The total of the three reciprocals is positive. -/
theorem total_pos (b : Fin 16) (n : Fin 4096) : 0 < A.total b n :=
  Finset.sum_pos (fun r _ => A.recip_pos b n r) Finset.univ_nonempty

/-- The weight of the `r`-th nearest point. -/
def weight (b : Fin 16) (n : Fin 4096) (r : Fin 3) : ℝ := A.recip b n r / A.total b n

/-- The interpolated feature `c` at point `n`. -/
def interp (b : Fin 16) (c : Fin 256) (n : Fin 4096) : ℝ := ∑ r, A.p2 b c (A.near b n r) * A.weight b n r

/-- Channel `k` of the left half of 512. -/
def left (k : Fin 256) : Fin 512 := ⟨k.val, by omega⟩
/-- Channel `k` of the right half of 512. -/
def right (k : Fin 256) : Fin 512 := ⟨256 + k.val, by omega⟩

/-- The first layer: the left half of the weights on the point's own features, the right half on the interpolated ones. -/
def y1 (o : Fin 512) (b : Fin 16) (n : Fin 4096) : ℝ :=
  (∑ c : Fin 256, A.w1 o (left c) * A.p1 b c n) + ∑ c : Fin 256, A.w1 o (right c) * A.interp b c n

/-- The first layer after batch normalisation and the positive part. -/
def z1 (o : Fin 512) (b : Fin 16) (n : Fin 4096) : ℝ := max (normed (A.y1 o) (A.g1 o) b n + A.be1 o) 0

/-- The second layer. -/
def y2 (o : Fin 256) (b : Fin 16) (n : Fin 4096) : ℝ := ∑ k, A.w2 o k * A.z1 k b n

/-- The result. -/
def out (b : Fin 16) (o : Fin 256) (n : Fin 4096) : EReal := max ((normed (A.y2 o) (A.g2 o) b n : EReal) + A.be2 o) 0

end Args

/-! ## The kernel's form of the normalisation -/

/-- One multiplication and one addition with the scale and shift of the two sums, `k` the final shift. -/
theorem scaled_eq (y : Fin 16 → Fin 4096 → ℝ) (g : ℝ) (k : EReal) (b : Fin 16) (n : Fin 4096) :
    (y b n : EReal) * ((g : EReal) * Ideal.rsqrt (((∑ b, ∑ n, y b n * y b n : ℝ) : EReal) * ((1 / 65536 : ℝ) : EReal)
          - ((∑ b, ∑ n, y b n : ℝ) : EReal) * ((1 / 65536 : ℝ) : EReal) * (((∑ b, ∑ n, y b n : ℝ) : EReal) * ((1 / 65536 : ℝ) : EReal)) + (eps5 : EReal)))
        + (k - ((∑ b, ∑ n, y b n : ℝ) : EReal) * ((1 / 65536 : ℝ) : EReal)
          * ((g : EReal) * Ideal.rsqrt (((∑ b, ∑ n, y b n * y b n : ℝ) : EReal) * ((1 / 65536 : ℝ) : EReal)
          - ((∑ b, ∑ n, y b n : ℝ) : EReal) * ((1 / 65536 : ℝ) : EReal) * (((∑ b, ∑ n, y b n : ℝ) : EReal) * ((1 / 65536 : ℝ) : EReal)) + (eps5 : EReal))))
      = (normed y g b n : EReal) + k := by
  have hv : ((∑ b, ∑ n, y b n * y b n : ℝ) : EReal) * ((1 / 65536 : ℝ) : EReal)
          - ((∑ b, ∑ n, y b n : ℝ) : EReal) * ((1 / 65536 : ℝ) : EReal) * (((∑ b, ∑ n, y b n : ℝ) : EReal) * ((1 / 65536 : ℝ) : EReal)) + (eps5 : EReal)
        = ((var y + eps5 : ℝ) : EReal) := by
    rw [← EReal.coe_mul, ← EReal.coe_mul, ← EReal.coe_mul, ← EReal.coe_sub, ← EReal.coe_add, var_eq]
  rw [hv, ← EReal.coe_mul, mean_eq, rsqrt_real _ (var_eps_pos y), ← EReal.coe_mul, ← EReal.coe_mul, ← EReal.coe_mul,
    sub_eq_add_neg, add_left_comm, add_comm, ← EReal.coe_neg, ← EReal.coe_add, normed]
  congr 2
  rw [div_eq_mul_inv]
  ring

end Cert.Val
-- ==== Proof.Value.Stage1.lean ====
/- The first call's arithmetic, entry by entry: from blocks of finite entries to the distances, the three nearest, the weights and the first layer. -/
module

public import proofs.«01_k».proof.Proof.KernelIdeal.Stage1
public import proofs.«01_k».proof.Proof.Value.Spec
public import Idealize.ShloMosaic.Lib.Pointwise
public import Idealize.ShloMosaic.Lib.Pipeline.ValueKit

@[expose] public section

set_option maxRecDepth 16384

noncomputable section

namespace Cert.Val

open Cert.KernelIdeal Cert.KernelIdeal.Gen
open Idealize.ShloMosaic Idealize.ShloMosaic.Tactic

/-- The row minima of a table of 512 rows, as a column. -/
def lows (x : FVec Ideal S512x1024 .f32) : FVec Ideal S512x1 .f32 :=
  shapeCast S512x1 (multiReduction .minimumf [1] S512 x 0x7F800000#32 reduces_S512x1024_S512 (.inl rfl) rfl) shapeCasts_S512_S512x1

/-- The mark of each row's first minimum. -/
def marks (x : FVec Ideal S512x1024 .f32) : IVec S512x1024 1 :=
  cmpi .eq (iota .tc S512x1024 32 [1] iota_S512x1024_d1_w32) (broadcastTo S512x1024 (shapeCast S512x1 (multiReductionI .minsi [1] S512
    (select (cmpf .oeq x (broadcastTo S512x1024 (lows x) broadcasts_S512x1_S512x1024)) (iota .tc S512x1024 32 [1] iota_S512x1024_d1_w32)
      (broadcast S512x1024 1024#32)) 2147483647#32 reduces_S512x1024_S512 rfl) shapeCasts_S512_S512x1) broadcasts_S512x1_S512x1024)

/-- A row's minimum is its entry at the first position that has it. -/
theorem lows_at (x : FVec Ideal S512x1024 .f32) (i : Fin 512) (z : Fin 1) :
    lows x (ix2 i z) = x (ix2 i (first fun s => x (ix2 i s))) := by
  pointwise [lows]
  rw [lit_inf]
  exact fold_min_eq fun s => x (ix2 i s)

/-- The mark of a row is set at the first position of its minimum and nowhere else. -/
theorem marks_at (x : FVec Ideal S512x1024 .f32) (i : Fin 512) (s : Fin 1024) :
    marks x (ix2 i s) = if s = first (fun s => x (ix2 i s)) then 1#1 else 0#1 := by
  have e : lows x (ix2 i 0) = x (ix2 i (first fun s => x (ix2 i s))) := lows_at x i 0
  unfold marks
  generalize lows x = l at e ⊢
  pointwise
  rw [e]
  exact (congrArg _ (fold_position fun s => x (ix2 i s))).trans (mark_first (fun s => x (ix2 i s)) s)

/-- Selecting `⊤` at a mark of the first minimum masks it. -/
theorem select_masked (f : Fin 1024 → EReal) (s : Fin 1024) :
    Scalar.select (if s = first f then 1#1 else 0#1) (⊤ : EReal) (f s) = masked f s := by
  by_cases h : s = first f
  · rw [if_pos h, masked, if_pos h]; rfl
  · rw [if_neg h, masked, if_neg h]; rfl

/-- Selecting by a mark is the case distinction on what the mark says. -/
theorem select_mark (p : Prop) [Decidable p] (a b : EReal) : Scalar.select (if p then 1#1 else 0#1) a b = if p then a else b := by
  by_cases h : p
  · rw [if_pos h, if_pos h]; rfl
  · rw [if_neg h, if_neg h]; rfl

variable (A : Args) (b : Fin 16) (ν : Fin 512 → Fin 4096)

/-- The weights table of one block of points: at each point's three nearest source points, that one's weight. -/
def Args.table (A : Args) (b : Fin 16) (n : Fin 4096) (s : Fin 1024) : ℝ :=
  ((if s = A.near b n 0 then A.weight b n 0 else 0) + (if s = A.near b n 1 then A.weight b n 1 else 0))
    + (if s = A.near b n 2 then A.weight b n 2 else 0)

/-- A sum against the weights table is the sum over the three nearest. -/
theorem sum_table (p : Fin 1024 → ℝ) (n : Fin 4096) : ∑ s, p s * A.table b n s = ∑ r, p (A.near b n r) * A.weight b n r := by
  unfold Args.table
  simp only [mul_add, Finset.sum_add_distrib, mul_ite, mul_zero, Finset.sum_ite_eq', Finset.mem_univ, if_true, Fin.sum_univ_three]

section Distances

variable (v0 : Vec Ideal S1x512x8 .f32) (v2 : Vec Ideal S1x1024x8 .f32)
  (h0 : ∀ i (k : Fin 8), v0 (ix3 0 i k) = ((if h : k.val < 3 then A.xyz1 b (ν i) ⟨k.val, h⟩ else 0 : ℝ) : EReal))
  (h2 : ∀ s (k : Fin 8), v2 (ix3 0 s k) = ((if h : k.val < 3 then A.xyz2 b s ⟨k.val, h⟩ else 0 : ℝ) : EReal))

include h0 h2 in
/-- The table of distances: the coordinates past the third are zeros and add nothing. -/
theorem pay5_at (i : Fin 512) (s : Fin 1024) : k0_pay5 (F := Ideal) v0 v2 (ix2 i s) = A.row b (ν i) s := by
  pointwise [k0_pay5]
  simp only [h0, h2, lit_neg_two, ← EReal.coe_mul, coe_sum, ← EReal.coe_add]
  unfold Args.row Args.dist
  congr 1
  simp [Fin.sum_univ_eight, Fin.sum_univ_three]

include h0 h2 in
theorem pay5_row (i : Fin 512) : (fun s => k0_pay5 (F := Ideal) v0 v2 (ix2 i s)) = A.row b (ν i) :=
  funext fun s => pay5_at A b ν v0 v2 h0 h2 i s

include h0 h2 in
theorem pay6_at (i : Fin 512) : k0_pay6 (F := Ideal) v0 v2 (ix2 i 0) = (A.dist b (ν i) (A.near b (ν i) 0) : EReal) := by
  have e : k0_pay6 (F := Ideal) v0 v2 = lows (k0_pay5 (F := Ideal) v0 v2) := rfl
  rw [e, lows_at, pay5_row A b ν v0 v2 h0 h2, pay5_at A b ν v0 v2 h0 h2, ← A.near_zero]
  rfl

include h0 h2 in
theorem pay7_at (i : Fin 512) (s : Fin 1024) : k0_pay7 (F := Ideal) v0 v2 (ix2 i s) = if s = A.near b (ν i) 0 then 1#1 else 0#1 := by
  have e : k0_pay7 (F := Ideal) v0 v2 = marks (k0_pay5 (F := Ideal) v0 v2) := rfl
  rw [e, marks_at, pay5_row A b ν v0 v2 h0 h2, A.near_zero]

include h0 h2 in
theorem pay8_at (i : Fin 512) (s : Fin 1024) : k0_pay8 (F := Ideal) v0 v2 (ix2 i s) = masked (A.row b (ν i)) s := by
  have e5 := pay5_at A b ν v0 v2 h0 h2 i s
  have e7 := pay7_at A b ν v0 v2 h0 h2 i s
  unfold k0_pay8
  generalize k0_pay5 (F := Ideal) v0 v2 = d at e5 ⊢
  generalize k0_pay7 (F := Ideal) v0 v2 = e at e7 ⊢
  pointwise
  rw [e5, e7, lit_inf, A.near_zero]
  exact select_masked (A.row b (ν i)) s

include h0 h2 in
theorem pay8_row (i : Fin 512) : (fun s => k0_pay8 (F := Ideal) v0 v2 (ix2 i s)) = masked (A.row b (ν i)) :=
  funext fun s => pay8_at A b ν v0 v2 h0 h2 i s

include h0 h2 in
theorem pay9_at (i : Fin 512) : k0_pay9 (F := Ideal) v0 v2 (ix2 i 0) = (A.dist b (ν i) (A.near b (ν i) 1) : EReal) := by
  have e : k0_pay9 (F := Ideal) v0 v2 = lows (k0_pay8 (F := Ideal) v0 v2) := rfl
  rw [e, lows_at, pay8_row A b ν v0 v2 h0 h2, pay8_at A b ν v0 v2 h0 h2, masked_second _ (by decide) (A.row_lt_top b (ν i)), ← A.near_one]
  rfl

include h0 h2 in
theorem pay10_at (i : Fin 512) (s : Fin 1024) : k0_pay10 (F := Ideal) v0 v2 (ix2 i s) = if s = A.near b (ν i) 1 then 1#1 else 0#1 := by
  have e : k0_pay10 (F := Ideal) v0 v2 = marks (k0_pay8 (F := Ideal) v0 v2) := rfl
  rw [e, marks_at, pay8_row A b ν v0 v2 h0 h2, A.near_one]

end Distances

/-- A column of reciprocals of distances, each made safe by the small constant. -/
theorem recip_at (n : Fin 4096) (r : Fin 3) :
    Ideal.div 1 ((A.dist b n (A.near b n r) : EReal) + Ideal.ofBits .f32 0x322BCC77#32) = (A.recip b n r : EReal) := by
  rw [lit_eps8, ← EReal.coe_add, ← EReal.coe_one, div_real _ _ (A.dist_eps_pos b n _).ne']
  rfl

/-- The reciprocal of the three reciprocals' sum. -/
theorem total_at (n : Fin 4096) :
    Ideal.div 1 ((A.recip b n 0 : EReal) + (A.recip b n 1 : EReal) + (A.recip b n 2 : EReal)) = ((1 / A.total b n : ℝ) : EReal) := by
  rw [← EReal.coe_add, ← EReal.coe_add, ← EReal.coe_one, ← Fin.sum_univ_three (A.recip b n)]
  exact div_real _ _ (A.total_pos b n).ne'

/-- The last round and the weights: the third minimum of the twice masked row, and each reciprocal over the sum at its mark. -/
theorem pay11_at (v20 : FVec Ideal S512x1 .f32) (v28 : IVec S512x1024 1) (v30 : FVec Ideal S512x1024 .f32) (v32 : FVec Ideal S512x1 .f32)
    (v40 : IVec S512x1024 1) (i : Fin 512) (s : Fin 1024)
    (h20 : v20 (ix2 i 0) = (A.dist b (ν i) (A.near b (ν i) 0) : EReal))
    (h28 : ∀ s, v28 (ix2 i s) = if s = A.near b (ν i) 0 then 1#1 else 0#1)
    (h30 : ∀ s, v30 (ix2 i s) = masked (A.row b (ν i)) s)
    (h32 : v32 (ix2 i 0) = (A.dist b (ν i) (A.near b (ν i) 1) : EReal))
    (h40 : ∀ s, v40 (ix2 i s) = if s = A.near b (ν i) 1 then 1#1 else 0#1) :
    k0_pay11 (F := Ideal) (iota .tc S512x1024 32 [1] iota_S512x1024_d1_w32) v20 v28 v30 v32 v40 (ix2 i s) = (A.table b (ν i) s : EReal) := by
  have hm : ∀ s, Scalar.select (v40 (ix2 i s)) (⊤ : EReal) (v30 (ix2 i s)) = masked (masked (A.row b (ν i))) s := fun s => by
    rw [h30, h40, A.near_one]; exact select_masked (masked (A.row b (ν i))) s
  have hmin : Finset.fold min ⊤ (fun s => masked (masked (A.row b (ν i))) s) Finset.univ = (A.dist b (ν i) (A.near b (ν i) 2) : EReal) := by
    rw [show (fun s => masked (masked (A.row b (ν i))) s) = masked (masked (A.row b (ν i))) from rfl, fold_min_eq,
      masked_third _ (by decide) (A.row_lt_top b (ν i)), ← A.near_two]
    rfl
  have hpos : IntOp.cmpi CmpIPredicate.eq (BitVec.ofNat 32 s.val) (Finset.fold IntOp.minsi (2147483647#32)
        (fun k : Fin 1024 => if masked (masked (A.row b (ν i))) k = (A.dist b (ν i) (A.near b (ν i) 2) : EReal) then BitVec.ofNat 32 k.val else 1024#32) Finset.univ)
      = if s = A.near b (ν i) 2 then 1#1 else 0#1 := by
    rw [← hmin, show (fun s => masked (masked (A.row b (ν i))) s) = masked (masked (A.row b (ν i))) from rfl, fold_min_eq, fold_position, A.near_two]
    exact mark_first (masked (masked (A.row b (ν i)))) s
  pointwise [k0_pay11]
  simp only [lit_inf, hm]
  simp only [hmin, h20, h32, h28, h40, hpos, recip_at, total_at, select_mark]
  simp only [← EReal.coe_mul, mul_one_div]
  unfold Args.table
  push_cast
  unfold Args.weight
  split_ifs <;> rfl

/-- The weights of a block of points, from the two blocks of padded coordinates. -/
theorem weights_at (v0 : Vec Ideal S1x512x8 .f32) (v2 : Vec Ideal S1x1024x8 .f32)
    (h0 : ∀ i (k : Fin 8), v0 (ix3 0 i k) = ((if h : k.val < 3 then A.xyz1 b (ν i) ⟨k.val, h⟩ else 0 : ℝ) : EReal))
    (h2 : ∀ s (k : Fin 8), v2 (ix3 0 s k) = ((if h : k.val < 3 then A.xyz2 b s ⟨k.val, h⟩ else 0 : ℝ) : EReal)) (i : Fin 512) (s : Fin 1024) :
    k0_pay11 (F := Ideal) (iota .tc S512x1024 32 [1] iota_S512x1024_d1_w32) (k0_pay6 v0 v2) (k0_pay7 v0 v2) (k0_pay8 v0 v2) (k0_pay9 v0 v2)
      (k0_pay10 v0 v2) (ix2 i s) = (A.table b (ν i) s : EReal) :=
  pay11_at A b ν _ _ _ _ _ i s (pay6_at A b ν v0 v2 h0 h2 i) (pay7_at A b ν v0 v2 h0 h2 i) (pay8_at A b ν v0 v2 h0 h2 i)
    (pay9_at A b ν v0 v2 h0 h2 i) (pay10_at A b ν v0 v2 h0 h2 i)

section Layer

variable (w : FVec Ideal S512x1024 .f32) (v86 : Vec Ideal S1x256x1024 .f32) (v89 : Vec Ideal S1x256x512 .f32) (v91 v93 : Vec Ideal S512x256 .f32)
  (hw : ∀ i s, w (ix2 i s) = (A.table b (ν i) s : EReal)) (h86 : ∀ c s, v86 (ix3 0 c s) = (A.p2 b c s : EReal))
  (h89 : ∀ c i, v89 (ix3 0 c i) = (A.p1 b c (ν i) : EReal)) (h91 : ∀ o (c : Fin 256), v91 (ix2 o c) = (A.w1 o (Args.left c) : EReal))
  (h93 : ∀ o (c : Fin 256), v93 (ix2 o c) = (A.w1 o (Args.right c) : EReal))

include hw h86 h89 h91 h93 in
/-- The first layer at a block's entry. -/
theorem pay1_at (o i : Fin 512) : k0_pay1 (F := Ideal) w v86 v89 v91 v93 (ix2 o i) = (A.y1 o b (ν i) : EReal) := by
  pointwise [k0_pay1]
  simp only [hw, h86, h89, h91, h93, ← EReal.coe_mul, coe_sum, ← EReal.coe_add, sum_table A b]
  rfl

include hw h86 h89 h91 h93 in
theorem pay2_at (o i : Fin 512) : k0_pay2 (F := Ideal) w v86 v89 v91 v93 (ix3 0 o i) = (A.y1 o b (ν i) : EReal) := by
  rw [← pay1_at A b ν w v86 v89 v91 v93 hw h86 h89 h91 h93]
  unfold k0_pay2
  generalize k0_pay1 (F := Ideal) w v86 v89 v91 v93 = y
  pointwise

/-- The two sums over a block of points: of the entries, and of their squares. -/
def sums (y : Fin 16 → Fin 4096 → ℝ) (q : Fin 2) (b : Fin 16) (ν : Fin 512 → Fin 4096) : ℝ :=
  if q.val < 1 then ∑ i, y b (ν i) else ∑ i, y b (ν i) * y b (ν i)

include hw h86 h89 h91 h93 in
theorem pay3_at (q : Fin 2) (o : Fin 512) : k0_pay3 (F := Ideal) w v86 v89 v91 v93 (ix2 q o) = (sums (A.y1 o) q b ν : EReal) := by
  have e := pay1_at A b ν w v86 v89 v91 v93 hw h86 h89 h91 h93 o
  unfold k0_pay3
  generalize k0_pay1 (F := Ideal) w v86 v89 v91 v93 = y at e ⊢
  pointwise
  simp only [e, ← EReal.coe_mul, coe_sum, sums]
  split_ifs <;> rfl

end Layer

/-- What later grid points store in the first call's sums: the block's earlier content plus the block's own sums. -/
theorem pay4_at (w v86 v89 v91 v93 v113) (q : Fin 2) (o : Fin 512) :
    k0_pay4 (F := Ideal) w v86 v89 v91 v93 v113 (ix2 q o) = v113 (ix2 q o) + k0_pay3 (F := Ideal) w v86 v89 v91 v93 (ix2 q o) := by
  pointwise [k0_pay4]

end Cert.Val
-- ==== Proof.Value.Region0.lean ====
/- The first call's two result arrays, from its operand arrays: the first layer, and its two sums over every batch and point. -/
module

public import proofs.«01_k».proof.Proof.Value.Stage1

@[expose] public section

set_option maxRecDepth 16384

noncomputable section

namespace Cert.Val

open Cert.KernelIdeal Cert.KernelIdeal.Gen Cert.KernelIdeal.Own
open Idealize.ShloMosaic Idealize.ShloMosaic.Tactic Idealize.ShloMosaic.TcCoe
open Idealize.ShloMosaic.Pipeline (Dat Cfg Window)

/-- The batch of grid point `t`. -/
def batch (t : ℕ) : Fin 16 := ⟨t / 8 % 16, Nat.mod_lt _ (by decide)⟩
/-- The points of grid point `t`'s block. -/
def point (t : ℕ) (i : Fin 512) : Fin 4096 := ⟨t % 8 * 512 + i.val, by omega⟩

/-- A sum over the grid's points of sums over their blocks is the sum over every batch and point. -/
theorem sum_blocks (f : Fin 16 → Fin 4096 → ℝ) : ∑ t ∈ Finset.range 128, ∑ i, f (batch t) (point t i) = ∑ b, ∑ n, f b n := by
  rw [Finset.sum_range, Fin.sum_univ_tiles 16 8 rfl fun t : Fin (16 * 8) => ∑ i, f (batch t.val) (point t.val i)]
  refine Finset.sum_congr rfl fun b _ => ?_
  rw [Fin.sum_univ_tiles 8 512 rfl fun n : Fin (8 * 512) => f b n]
  refine Finset.sum_congr rfl fun j _ => Finset.sum_congr rfl fun i _ => ?_
  have hb : batch (b.val * 8 + j.val) = b := Fin.ext (by simp only [batch]; omega)
  have hp : point (b.val * 8 + j.val) i = ⟨j.val * 512 + i.val, by omega⟩ := Fin.ext (by simp only [point]; omega)
  rw [hb, hp]

/-- The sum over the grid's points of a block's two sums is the channel's two sums. -/
theorem sum_sums (y : Fin 16 → Fin 4096 → ℝ) (q : Fin 2) :
    ∑ t ∈ Finset.range 128, sums y q (batch t) (point t) = if q.val < 1 then ∑ b, ∑ n, y b n else ∑ b, ∑ n, y b n * y b n := by
  unfold sums
  split_ifs
  · exact sum_blocks y
  · exact sum_blocks fun b n => y b n * y b n

variable (V : (c : Dev nD) → (b : Ref sig .tc) → Buf (Elt Ideal) ((c : Thread nD τ).loc b)) (c : Dev nD)

/-- Which block of each operand and result the first call uses at each grid point. -/
theorem index0 : ∀ t : Fin cfg0.N,
    win0_0.index t = ![t.val / 8, t.val % 8, 0] ∧ win0_1.index t = ![t.val / 8, 0, 0] ∧ win0_2.index t = ![t.val / 8, 0, t.val % 8]
      ∧ win0_3.index t = ![t.val / 8, 0, 0] ∧ win0_4.index t = ![0, 0] ∧ win0_5.index t = ![t.val / 8, 0, t.val % 8] ∧ win0_6.index t = ![0, 0] :=
  (by decide +kernel : ∀ t : Fin grid0.N, _)

/-- The first call has 128 grid points. -/
theorem points0 (t : Fin cfg0.N) : t.val < 128 := lt_of_lt_of_eq t.isLt (by decide +kernel)

/-! ## The operand blocks -/

theorem block0_0 (t : Fin cfg0.N) (i : Fin 512) (k : Fin 8) :
    (iblk0 V c 0 t : Vec Ideal S1x512x8 .f32) (ix3 0 i k) = (V c main_call0_v0 : Vec Ideal S16x4096x8 .f32) (ix3 (batch t.val) (point t.val i) k) := by
  have := points0 t
  blk_point [iblk0, index0 t, batch, point]
/-- The first call's block of padded source coordinates: the whole of the point's batch. -/
theorem block0_1 (t : Fin cfg0.N) (s : Fin 1024) (k : Fin 8) :
    (iblk0 V c 1 t : Vec Ideal S1x1024x8 .f32) (ix3 0 s k) = (V c main_call0_v1 : Vec Ideal S16x1024x8 .f32) (ix3 (batch t.val) s k) := by
  have := points0 t
  blk_point [iblk0, index0 t, batch, point]
/-- The first call's block of query features: the point's batch and its 512 points. -/
theorem block0_2 (t : Fin cfg0.N) (k : Fin 256) (i : Fin 512) :
    (iblk0 V c 2 t : Vec Ideal S1x256x512 .f32) (ix3 0 k i) = (V c main_arg2 : Vec Ideal S16x256x4096 .f32) (ix3 (batch t.val) k (point t.val i)) := by
  have := points0 t
  blk_point [iblk0, index0 t, batch, point]
/-- The first call's block of source features: the whole of the point's batch. -/
theorem block0_3 (t : Fin cfg0.N) (k : Fin 256) (s : Fin 1024) :
    (iblk0 V c 3 t : Vec Ideal S1x256x1024 .f32) (ix3 0 k s) = (V c main_arg3 : Vec Ideal S16x256x1024 .f32) (ix3 (batch t.val) k s) := by
  have := points0 t
  blk_point [iblk0, index0 t, batch, point]
/-- The first call's block of weights is the whole weight matrix. -/
theorem block0_4 (t : Fin cfg0.N) (o k : Fin 512) :
    (iblk0 V c 4 t : Vec Ideal S512x512 .f32) (ix2 o k) = (V c main_arg4 : Vec Ideal S512x512 .f32) (ix2 o k) := by
  have := points0 t
  blk_point [iblk0, index0 t, batch, point]

/-- The first call's operand arrays hold the arguments: the coordinates padded by zeros, the rest as they are. -/
structure Operands0 (A : Args) : Prop where
  x1 : ∀ b n (k : Fin 8), (V c main_call0_v0 : Vec Ideal S16x4096x8 .f32) (ix3 b n k) = ((if h : k.val < 3 then A.xyz1 b n ⟨k.val, h⟩ else 0 : ℝ) : EReal)
  x2 : ∀ b s (k : Fin 8), (V c main_call0_v1 : Vec Ideal S16x1024x8 .f32) (ix3 b s k) = ((if h : k.val < 3 then A.xyz2 b s ⟨k.val, h⟩ else 0 : ℝ) : EReal)
  p1 : ∀ b k n, (V c main_arg2 : Vec Ideal S16x256x4096 .f32) (ix3 b k n) = (A.p1 b k n : EReal)
  p2 : ∀ b k s, (V c main_arg3 : Vec Ideal S16x256x1024 .f32) (ix3 b k s) = (A.p2 b k s : EReal)
  w1 : ∀ o k, (V c main_arg4 : Vec Ideal S512x512 .f32) (ix2 o k) = (A.w1 o k : EReal)

variable {V c} {A : Args} (H : Operands0 V c A)

include H in
/-- The weights table of the block at point `t`. -/
theorem table_at (t : Fin cfg0.N) (i : Fin 512) (s : Fin 1024) :
    wd0 (iblk0 V c 0 t) (iblk0 V c 1 t) (ix2 i s) = (A.table (batch t.val) (point t.val i) s : EReal) := by
  unfold wd0
  frame_out
  exact weights_at A (batch t.val) (point t.val) _ _ (fun i k => (block0_0 V c t i k).trans (H.x1 _ _ _))
    (fun s k => (block0_1 V c t s k).trans (H.x2 _ _ _)) i s

include H in
theorem left_at (t : Fin cfg0.N) (o : Fin 512) (k : Fin 256) : View.ld (iblk0 V c 4 t) rL0 (ix2 o k) = (A.w1 o (Args.left k) : EReal) := by
  refine Eq.trans ?_ ((block0_4 V c t o (Args.left k)).trans (H.w1 _ _))
  refine congrArg (iblk0 V c 4 t) (?_ : rL0.idx (ix2 o k) = ix2 o (Args.left k))
  pointwise
  rfl

include H in
theorem right_at (t : Fin cfg0.N) (o : Fin 512) (k : Fin 256) : View.ld (iblk0 V c 4 t) rR0 (ix2 o k) = (A.w1 o (Args.right k) : EReal) := by
  refine Eq.trans ?_ ((block0_4 V c t o (Args.right k)).trans (H.w1 _ _))
  refine congrArg (iblk0 V c 4 t) (?_ : rR0.idx (ix2 o k) = ix2 o (Args.right k))
  pointwise
  rfl

include H in
/-- The first layer's block at point `t`. -/
theorem out0_at (t : Fin cfg0.N) (o i : Fin 512) :
    out0 (iblk0 V c 0 t) (iblk0 V c 1 t) (iblk0 V c 2 t) (iblk0 V c 3 t) (iblk0 V c 4 t) (ix3 0 o i) = (A.y1 o (batch t.val) (point t.val i) : EReal) := by
  unfold out0
  frame_out
  exact pay2_at A (batch t.val) (point t.val) _ _ _ _ _ (table_at H t) (fun k s => (block0_3 V c t k s).trans (H.p2 _ _ _))
    (fun k i => (block0_2 V c t k i).trans (H.p1 _ _ _)) (left_at H t) (right_at H t) o i

include H in
/-- The two sums at the first point. -/
theorem first0_at (t : Fin cfg0.N) (q : Fin 2) (o : Fin 512) :
    first0 (iblk0 V c 0 t) (iblk0 V c 1 t) (iblk0 V c 2 t) (iblk0 V c 3 t) (iblk0 V c 4 t) (ix2 q o) = (sums (A.y1 o) q (batch t.val) (point t.val) : EReal) := by
  unfold first0
  frame_out
  exact pay3_at A (batch t.val) (point t.val) _ _ _ _ _ (table_at H t) (fun k s => (block0_3 V c t k s).trans (H.p2 _ _ _))
    (fun k i => (block0_2 V c t k i).trans (H.p1 _ _ _)) (left_at H t) (right_at H t) q o

include H in
/-- The two sums at a later point, over what the window held. -/
theorem next0_at (t : Fin cfg0.N) (xo : Vec Ideal S2x512 .f32) (q : Fin 2) (o : Fin 512) :
    next0 (iblk0 V c 0 t) (iblk0 V c 1 t) (iblk0 V c 2 t) (iblk0 V c 3 t) (iblk0 V c 4 t) xo (ix2 q o)
      = xo (ix2 q o) + (sums (A.y1 o) q (batch t.val) (point t.val) : EReal) := by
  unfold next0
  frame_out
  rw [pay4_at]
  refine congrArg (_ + ·) ?_
  exact pay3_at A (batch t.val) (point t.val) _ _ _ _ _ (table_at H t) (fun k s => (block0_3 V c t k s).trans (H.p2 _ _ _))
    (fun k i => (block0_2 V c t k i).trans (H.p1 _ _ _)) (left_at H t) (right_at H t) q o

include H in
/-- The window of sums after point `n` holds the sums over the points so far. -/
theorem stat0_at (q : Fin 2) (o : Fin 512) (n : ℕ) (hn : n < cfg0.N) :
    stat0 V c n hn (ix2 q o) = ((∑ t ∈ Finset.range (n + 1), sums (A.y1 o) q (batch t) (point t) : ℝ) : EReal) := by
  induction n with
  | zero => rw [Finset.sum_range_one]; exact first0_at H ⟨0, hn⟩ q o
  | succ n ih =>
    rw [Finset.sum_range_succ, EReal.coe_add, ← ih (Nat.lt_of_succ_lt hn)]
    exact next0_at H ⟨n + 1, hn⟩ _ q o

/-! ## The two result arrays -/

include H in
/-- The first call's first result: the first layer. -/
theorem array0_5 (b : Fin 16) (o : Fin 512) (n : Fin 4096) :
    ((dat0 V c).arrAt 5 cfg0.N : Vec Ideal S16x512x4096 .f32) (ix3 b o n) = (A.y1 o b n : EReal) := by
  have e : ((dat0 V c).arrAt 5 cfg0.N : Vec Ideal S16x512x4096 .f32) = fun i => (A.y1 (i 1) (i 0) (i 2) : EReal) := by
    refine (dat0 V c).arrAt_eq_of_covers 5 _ (by decide +kernel) fun t _ y => ?_
    blk_simp
    rw [after0_5]
    have := points0 t
    have e : (win0_5.blk t).view.emb y = ix3 (batch t.val) (y 1 : Fin 512) (point t.val (y 2 : Fin 512)) := by
      blk_ext [index0 t, batch, point]
    have e' : y = ix3 0 (y 1 : Fin 512) (y 2 : Fin 512) := by
      blk_ext
    rw [e]
    refine Eq.trans ?_ (out0_at H t (y 1) (y 2))
    exact congrArg _ e'
  rw [e]
  rfl

/-- The first call's sums are written back at the last grid point only. -/
theorem last0 : ∀ t : Fin cfg0.N, win0_6.flush t = true → t.val = 127 :=
  (by decide +kernel : ∀ t : Fin grid0.N, win0_6.flush t = true → t.val = 127)

include H in
/-- The first call's second result: the first layer's sums and sums of squares. -/
theorem array0_6 (q : Fin 2) (o : Fin 512) :
    ((dat0 V c).arrAt 6 cfg0.N : Vec Ideal S2x512 .f32) (ix2 q o) = ((if q.val < 1 then ∑ b, ∑ n, A.y1 o b n else ∑ b, ∑ n, A.y1 o b n * A.y1 o b n : ℝ) : EReal) := by
  have e : ((dat0 V c).arrAt 6 cfg0.N : Vec Ideal S2x512 .f32)
      = fun i => ((∑ t ∈ Finset.range 128, sums (A.y1 (i 1)) (i 0) (batch t) (point t) : ℝ) : EReal) := by
    refine (dat0 V c).arrAt_eq_of_covers 6 _ (by decide +kernel) fun t hf y => ?_
    blk_simp
    rw [after0_6]
    have h127 : t.val = 127 := last0 t hf
    have e : (win0_6.blk t).view.emb y = ix2 (y 0 : Fin 2) (y 1 : Fin 512) := by
      blk_ext [index0 t]
    have e' : y = ix2 (y 0 : Fin 2) (y 1 : Fin 512) := by
      blk_ext
    rw [e]
    refine Eq.trans (congrArg _ e') ((stat0_at H (y 0) (y 1) t.val t.isLt).trans ?_)
    rw [h127]
    rfl
  rw [e, ← sum_sums]
  rfl

end Cert.Val
-- ==== Proof.Value.Stage23.lean ====
/- The second and third calls' arithmetic, entry by entry: normalisation from the two sums, the positive part, the second layer. -/
module

public import proofs.«01_k».proof.Proof.KernelIdeal.Stage2
public import proofs.«01_k».proof.Proof.KernelIdeal.Stage3
public import proofs.«01_k».proof.Proof.Value.Spec
public import Idealize.ShloMosaic.Lib.Pointwise
public import Idealize.ShloMosaic.Lib.Pipeline.ValueKit

@[expose] public section

set_option maxRecDepth 16384

noncomputable section

namespace Cert.Val

open Cert.KernelIdeal Cert.KernelIdeal.Gen
open Idealize.ShloMosaic Idealize.ShloMosaic.Tactic

variable (A : Args) (b : Fin 16) (ν : Fin 512 → Fin 4096)

section Second

variable (v0 v4 v10 v16 : Vec Ideal S1x512 .f32) (v20 : Vec Ideal S1x512x512 .f32) (v30 : Vec Ideal S256x512 .f32)
  (h0 : ∀ k, v0 (ix2 0 k) = ((∑ b, ∑ n, A.y1 k b n : ℝ) : EReal))
  (h4 : ∀ k, v4 (ix2 0 k) = ((∑ b, ∑ n, A.y1 k b n * A.y1 k b n : ℝ) : EReal))
  (h10 : ∀ k, v10 (ix2 0 k) = (A.g1 k : EReal)) (h16 : ∀ k, v16 (ix2 0 k) = (A.be1 k : EReal))
  (h20 : ∀ k i, v20 (ix3 0 k i) = (A.y1 k b (ν i) : EReal)) (h30 : ∀ o k, v30 (ix2 o k) = (A.w2 o k : EReal))

include h0 h4 h10 h16 h20 h30 in
/-- The second layer at a block's entry. -/
theorem second_at (o : Fin 256) (i : Fin 512) : k1_pay3 (F := Ideal) v0 v4 v10 v16 v20 v30 (ix2 o i) = (A.y2 o b (ν i) : EReal) := by
  pointwise [k1_pay3]
  simp only [h0, h4, h10, h16, h20, h30, lit_inv_count, lit_eps5, scaled_eq]
  simp only [← EReal.coe_add, ← EReal.coe_zero, coe_max, ← EReal.coe_mul, coe_sum]
  rfl

end Second

/-- What the second call stores in its layer's block is the second layer computed from the block. -/
theorem second_out_at (v0 v4 v10 v16 v20 v30) (o : Fin 256) (i : Fin 512) :
    k1_pay4 (F := Ideal) v0 v4 v10 v16 v20 v30 (ix3 0 o i) = k1_pay3 (F := Ideal) v0 v4 v10 v16 v20 v30 (ix2 o i) := by
  pointwise [k1_pay4]

/-- The two sums over a block of the second layer. -/
theorem second_sums_at (y : FVec Ideal S256x512 .f32) (q : Fin 2) (o : Fin 256) (f : Fin 512 → ℝ) (hy : ∀ i, y (ix2 o i) = (f i : EReal)) :
    k1_pay1 (F := Ideal) y (ix2 q o) = ((if q.val < 1 then ∑ i, f i else ∑ i, f i * f i : ℝ) : EReal) := by
  pointwise [k1_pay1]
  simp only [hy, ← EReal.coe_mul, coe_sum]
  split_ifs <;> rfl

/-- What later grid points store in the second call's sums: the block's earlier content plus the block's own sums. -/
theorem second_next_at (y v) (q : Fin 2) (o : Fin 256) :
    k1_pay2 (F := Ideal) y v (ix2 q o) = v (ix2 q o) + k1_pay1 (F := Ideal) y (ix2 q o) := by
  pointwise [k1_pay2]

section Third

variable (v0 v4 v10 v16 : Vec Ideal S1x256 .f32) (v20 : Vec Ideal S1x256x512 .f32)
  (h0 : ∀ k, v0 (ix2 0 k) = ((∑ b, ∑ n, A.y2 k b n : ℝ) : EReal))
  (h4 : ∀ k, v4 (ix2 0 k) = ((∑ b, ∑ n, A.y2 k b n * A.y2 k b n : ℝ) : EReal))
  (h10 : ∀ k, v10 (ix2 0 k) = (A.g2 k : EReal)) (h16 : ∀ k, v16 (ix2 0 k) = A.be2 k)
  (h20 : ∀ k i, v20 (ix3 0 k i) = (A.y2 k b (ν i) : EReal))

include h0 h4 h10 h16 h20 in
/-- The result at a block's entry. -/
theorem third_at (o : Fin 256) (i : Fin 512) : k2_pay1 (F := Ideal) v0 v4 v10 v16 v20 (ix3 0 o i) = A.out b o (ν i) := by
  pointwise [k2_pay1]
  simp only [h0, h4, h10, h16, h20, lit_inv_count, lit_eps5, scaled_eq]
  rfl

end Third

end Cert.Val
-- ==== Proof.Value.Region12.lean ====
/- The second and third calls' result arrays, from their operand arrays: the second layer and its two sums, and the result. -/
module

public import proofs.«01_k».proof.Proof.Value.Region0
public import proofs.«01_k».proof.Proof.Value.Stage23

@[expose] public section

set_option maxRecDepth 16384

noncomputable section

namespace Cert.Val

open Cert.KernelIdeal Cert.KernelIdeal.Gen Cert.KernelIdeal.Own
open Idealize.ShloMosaic Idealize.ShloMosaic.Tactic Idealize.ShloMosaic.TcCoe
open Idealize.ShloMosaic.Pipeline (Dat Cfg Window)

/-- A channel's sum over every batch and point, or the sum of its squares. -/
def full (y : Fin 16 → Fin 4096 → ℝ) (q : Fin 2) : ℝ := if q.val < 1 then ∑ b, ∑ n, y b n else ∑ b, ∑ n, y b n * y b n

variable (V : (c : Dev nD) → (b : Ref sig .tc) → Buf (Elt Ideal) ((c : Thread nD τ).loc b)) (c : Dev nD)

/-! ## The second call -/

theorem index1 : ∀ t : Fin cfg1.N,
    win1_0.index t = ![t.val / 8, 0, t.val % 8] ∧ win1_1.index t = ![0, 0] ∧ win1_2.index t = ![0, 0] ∧ win1_3.index t = ![0, 0]
      ∧ win1_4.index t = ![0, 0] ∧ win1_5.index t = ![t.val / 8, 0, t.val % 8] ∧ win1_6.index t = ![0, 0] :=
  (by decide +kernel : ∀ t : Fin grid1.N, _)

/-- The second call has 128 grid points. -/
theorem points1 (t : Fin cfg1.N) : t.val < 128 := lt_of_lt_of_eq t.isLt (by decide +kernel)

/-- The second call's block of the first layer: the point's batch and its 512 points. -/
theorem block1_0 (t : Fin cfg1.N) (k i : Fin 512) :
    (iblk1 V c 0 t : Vec Ideal S1x512x512 .f32) (ix3 0 k i) = (V c main_call0_v2_0 : Vec Ideal S16x512x4096 .f32) (ix3 (batch t.val) k (point t.val i)) := by
  have := points1 t
  blk_point [iblk1, index1 t, batch, point]
/-- The second call's block of the first layer's sums is the whole array. -/
theorem block1_1 (t : Fin cfg1.N) (q : Fin 2) (k : Fin 512) :
    (iblk1 V c 1 t : Vec Ideal S2x512 .f32) (ix2 q k) = (V c main_call0_v2_1 : Vec Ideal S2x512 .f32) (ix2 q k) := by
  blk_point [iblk1, index1 t]
/-- The second call's block of the scale is the whole row. -/
theorem block1_2 (t : Fin cfg1.N) (q : Fin 1) (k : Fin 512) :
    (iblk1 V c 2 t : Vec Ideal S1x512 .f32) (ix2 q k) = (V c main_call0_v3 : Vec Ideal S1x512 .f32) (ix2 q k) := by
  blk_point [iblk1, index1 t]
/-- The second call's block of the shift is the whole row. -/
theorem block1_3 (t : Fin cfg1.N) (q : Fin 1) (k : Fin 512) :
    (iblk1 V c 3 t : Vec Ideal S1x512 .f32) (ix2 q k) = (V c main_call0_v4 : Vec Ideal S1x512 .f32) (ix2 q k) := by
  blk_point [iblk1, index1 t]
/-- The second call's block of weights is the whole weight matrix. -/
theorem block1_4 (t : Fin cfg1.N) (o : Fin 256) (k : Fin 512) :
    (iblk1 V c 4 t : Vec Ideal S256x512 .f32) (ix2 o k) = (V c main_arg8 : Vec Ideal S256x512 .f32) (ix2 o k) := by
  blk_point [iblk1, index1 t]

/-- The second call's operand arrays: the first layer, its sums, the scale, the shift and the weights. -/
structure Operands1 (A : Args) : Prop where
  y : ∀ b o n, (V c main_call0_v2_0 : Vec Ideal S16x512x4096 .f32) (ix3 b o n) = (A.y1 o b n : EReal)
  st : ∀ q o, (V c main_call0_v2_1 : Vec Ideal S2x512 .f32) (ix2 q o) = (full (A.y1 o) q : EReal)
  g : ∀ q o, (V c main_call0_v3 : Vec Ideal S1x512 .f32) (ix2 q o) = (A.g1 o : EReal)
  be : ∀ q o, (V c main_call0_v4 : Vec Ideal S1x512 .f32) (ix2 q o) = (A.be1 o : EReal)
  w2 : ∀ o k, (V c main_arg8 : Vec Ideal S256x512 .f32) (ix2 o k) = (A.w2 o k : EReal)

section

variable {V c} {A : Args} (H : Operands1 V c A)

include H in
theorem sum1_at (t : Fin cfg1.N) (k : Fin 512) : View.ld (iblk1 V c 1 t) rA1 (ix2 0 k) = ((∑ b, ∑ n, A.y1 k b n : ℝ) : EReal) := by
  refine Eq.trans ?_ ((block1_1 V c t 0 k).trans (H.st 0 k))
  refine congrArg (iblk1 V c 1 t) (?_ : rA1.idx (ix2 0 k) = ix2 0 k)
  pointwise

include H in
theorem squares1_at (t : Fin cfg1.N) (k : Fin 512) : View.ld (iblk1 V c 1 t) rB1 (ix2 0 k) = ((∑ b, ∑ n, A.y1 k b n * A.y1 k b n : ℝ) : EReal) := by
  refine Eq.trans ?_ ((block1_1 V c t 1 k).trans (H.st 1 k))
  refine congrArg (iblk1 V c 1 t) (?_ : rB1.idx (ix2 0 k) = ix2 1 k)
  pointwise

include H in
/-- The second layer's block at point `t`, before it is stored. -/
theorem layer1_at (t : Fin cfg1.N) (o : Fin 256) (i : Fin 512) :
    k1_pay3 (F := Ideal) (View.ld (iblk1 V c 1 t) rA1) (View.ld (iblk1 V c 1 t) rB1) (iblk1 V c 2 t) (iblk1 V c 3 t) (iblk1 V c 0 t) (iblk1 V c 4 t) (ix2 o i)
      = (A.y2 o (batch t.val) (point t.val i) : EReal) :=
  second_at A (batch t.val) (point t.val) _ _ _ _ _ _ (sum1_at H t) (squares1_at H t) (fun k => (block1_2 V c t 0 k).trans (H.g _ _))
    (fun k => (block1_3 V c t 0 k).trans (H.be _ _)) (fun k i => (block1_0 V c t k i).trans (H.y _ _ _))
    (fun o k => (block1_4 V c t o k).trans (H.w2 _ _)) o i

include H in
theorem out1_at (t : Fin cfg1.N) (o : Fin 256) (i : Fin 512) :
    out1 (iblk1 V c 0 t) (iblk1 V c 1 t) (iblk1 V c 2 t) (iblk1 V c 3 t) (iblk1 V c 4 t) (ix3 0 o i) = (A.y2 o (batch t.val) (point t.val i) : EReal) := by
  unfold out1
  frame_out
  rw [second_out_at]
  exact layer1_at H t o i

include H in
theorem first1_at (t : Fin cfg1.N) (q : Fin 2) (o : Fin 256) :
    first1 (iblk1 V c 0 t) (iblk1 V c 1 t) (iblk1 V c 2 t) (iblk1 V c 3 t) (iblk1 V c 4 t) (ix2 q o) = (sums (A.y2 o) q (batch t.val) (point t.val) : EReal) := by
  unfold first1
  frame_out
  exact second_sums_at _ q o (fun i => A.y2 o (batch t.val) (point t.val i)) (layer1_at H t o)

include H in
theorem next1_at (t : Fin cfg1.N) (xo : Vec Ideal S2x256 .f32) (q : Fin 2) (o : Fin 256) :
    next1 (iblk1 V c 0 t) (iblk1 V c 1 t) (iblk1 V c 2 t) (iblk1 V c 3 t) (iblk1 V c 4 t) xo (ix2 q o)
      = xo (ix2 q o) + (sums (A.y2 o) q (batch t.val) (point t.val) : EReal) := by
  unfold next1
  frame_out
  rw [second_next_at]
  refine congrArg (_ + ·) ?_
  exact second_sums_at _ q o (fun i => A.y2 o (batch t.val) (point t.val i)) (layer1_at H t o)

include H in
/-- The window of sums after point `n` holds the sums over the points so far. -/
theorem stat1_at (q : Fin 2) (o : Fin 256) (n : ℕ) (hn : n < cfg1.N) :
    stat1 V c n hn (ix2 q o) = ((∑ t ∈ Finset.range (n + 1), sums (A.y2 o) q (batch t) (point t) : ℝ) : EReal) := by
  induction n with
  | zero => rw [Finset.sum_range_one]; exact first1_at H ⟨0, hn⟩ q o
  | succ n ih =>
    rw [Finset.sum_range_succ, EReal.coe_add, ← ih (Nat.lt_of_succ_lt hn)]
    exact next1_at H ⟨n + 1, hn⟩ _ q o

include H in
/-- The second call's first result: the second layer. -/
theorem array1_5 (b : Fin 16) (o : Fin 256) (n : Fin 4096) :
    ((dat1 V c).arrAt 5 cfg1.N : Vec Ideal S16x256x4096 .f32) (ix3 b o n) = (A.y2 o b n : EReal) := by
  have e : ((dat1 V c).arrAt 5 cfg1.N : Vec Ideal S16x256x4096 .f32) = fun i => (A.y2 (i 1) (i 0) (i 2) : EReal) := by
    refine (dat1 V c).arrAt_eq_of_covers 5 _ (by decide +kernel) fun t _ y => ?_
    blk_simp
    rw [after1_5]
    have := points1 t
    have e : (win1_5.blk t).view.emb y = ix3 (batch t.val) (y 1 : Fin 256) (point t.val (y 2 : Fin 512)) := by
      blk_ext [index1 t, batch, point]
    have e' : y = ix3 0 (y 1 : Fin 256) (y 2 : Fin 512) := by
      blk_ext
    rw [e]
    refine Eq.trans ?_ (out1_at H t (y 1) (y 2))
    exact congrArg _ e'
  rw [e]
  rfl

/-- The second call's sums are written back at the last grid point only. -/
theorem last1 : ∀ t : Fin cfg1.N, win1_6.flush t = true → t.val = 127 :=
  (by decide +kernel : ∀ t : Fin grid1.N, win1_6.flush t = true → t.val = 127)

include H in
/-- The second call's second result: the second layer's sums and sums of squares. -/
theorem array1_6 (q : Fin 2) (o : Fin 256) :
    ((dat1 V c).arrAt 6 cfg1.N : Vec Ideal S2x256 .f32) (ix2 q o) = (full (A.y2 o) q : EReal) := by
  have e : ((dat1 V c).arrAt 6 cfg1.N : Vec Ideal S2x256 .f32)
      = fun i => ((∑ t ∈ Finset.range 128, sums (A.y2 (i 1)) (i 0) (batch t) (point t) : ℝ) : EReal) := by
    refine (dat1 V c).arrAt_eq_of_covers 6 _ (by decide +kernel) fun t hf y => ?_
    blk_simp
    rw [after1_6]
    have h127 : t.val = 127 := last1 t hf
    have e : (win1_6.blk t).view.emb y = ix2 (y 0 : Fin 2) (y 1 : Fin 256) := by
      blk_ext [index1 t]
    have e' : y = ix2 (y 0 : Fin 2) (y 1 : Fin 256) := by
      blk_ext
    rw [e]
    refine Eq.trans (congrArg _ e') ((stat1_at H (y 0) (y 1) t.val t.isLt).trans ?_)
    rw [h127]
    rfl
  rw [e, full, ← sum_sums]
  rfl

end

/-! ## The third call -/

theorem index2 : ∀ t : Fin cfg2.N,
    win2_0.index t = ![t.val / 8, 0, t.val % 8] ∧ win2_1.index t = ![0, 0] ∧ win2_2.index t = ![0, 0] ∧ win2_3.index t = ![0, 0]
      ∧ win2_4.index t = ![t.val / 8, 0, t.val % 8] :=
  (by decide +kernel : ∀ t : Fin grid2.N, _)

/-- The third call has 128 grid points. -/
theorem points2 (t : Fin cfg2.N) : t.val < 128 := lt_of_lt_of_eq t.isLt (by decide +kernel)

/-- The third call's block of the second layer: the point's batch and its 512 points. -/
theorem block2_0 (t : Fin cfg2.N) (k : Fin 256) (i : Fin 512) :
    (iblk2 V c 0 t : Vec Ideal S1x256x512 .f32) (ix3 0 k i) = (V c main_call0_v5_0 : Vec Ideal S16x256x4096 .f32) (ix3 (batch t.val) k (point t.val i)) := by
  have := points2 t
  blk_point [iblk2, index2 t, batch, point]
/-- The third call's block of the second layer's sums is the whole array. -/
theorem block2_1 (t : Fin cfg2.N) (q : Fin 2) (k : Fin 256) :
    (iblk2 V c 1 t : Vec Ideal S2x256 .f32) (ix2 q k) = (V c main_call0_v5_1 : Vec Ideal S2x256 .f32) (ix2 q k) := by
  blk_point [iblk2, index2 t]
/-- The third call's block of the scale is the whole row. -/
theorem block2_2 (t : Fin cfg2.N) (q : Fin 1) (k : Fin 256) :
    (iblk2 V c 2 t : Vec Ideal S1x256 .f32) (ix2 q k) = (V c main_call0_v6 : Vec Ideal S1x256 .f32) (ix2 q k) := by
  blk_point [iblk2, index2 t]
/-- The third call's block of the shift is the whole row. -/
theorem block2_3 (t : Fin cfg2.N) (q : Fin 1) (k : Fin 256) :
    (iblk2 V c 3 t : Vec Ideal S1x256 .f32) (ix2 q k) = (V c main_call0_v7 : Vec Ideal S1x256 .f32) (ix2 q k) := by
  blk_point [iblk2, index2 t]

/-- The third call's operand arrays: the second layer, its sums, the scale and the shift. -/
structure Operands2 (A : Args) : Prop where
  y : ∀ b o n, (V c main_call0_v5_0 : Vec Ideal S16x256x4096 .f32) (ix3 b o n) = (A.y2 o b n : EReal)
  st : ∀ q o, (V c main_call0_v5_1 : Vec Ideal S2x256 .f32) (ix2 q o) = (full (A.y2 o) q : EReal)
  g : ∀ q o, (V c main_call0_v6 : Vec Ideal S1x256 .f32) (ix2 q o) = (A.g2 o : EReal)
  be : ∀ q o, (V c main_call0_v7 : Vec Ideal S1x256 .f32) (ix2 q o) = A.be2 o

section

variable {V c} {A : Args} (H : Operands2 V c A)

include H in
theorem sum2_at (t : Fin cfg2.N) (k : Fin 256) : View.ld (iblk2 V c 1 t) r2_0 (ix2 0 k) = ((∑ b, ∑ n, A.y2 k b n : ℝ) : EReal) := by
  refine Eq.trans ?_ ((block2_1 V c t 0 k).trans (H.st 0 k))
  refine congrArg (iblk2 V c 1 t) (?_ : r2_0.idx (ix2 0 k) = ix2 0 k)
  pointwise

include H in
theorem squares2_at (t : Fin cfg2.N) (k : Fin 256) : View.ld (iblk2 V c 1 t) r2_1 (ix2 0 k) = ((∑ b, ∑ n, A.y2 k b n * A.y2 k b n : ℝ) : EReal) := by
  refine Eq.trans ?_ ((block2_1 V c t 1 k).trans (H.st 1 k))
  refine congrArg (iblk2 V c 1 t) (?_ : r2_1.idx (ix2 0 k) = ix2 1 k)
  pointwise

include H in
/-- The result's block at point `t`. -/
theorem out2_at (t : Fin cfg2.N) (o : Fin 256) (i : Fin 512) :
    out2_4 (iblk2 V c 0 t) (iblk2 V c 1 t) (iblk2 V c 2 t) (iblk2 V c 3 t) (ix3 0 o i) = A.out (batch t.val) o (point t.val i) := by
  unfold out2_4
  frame_out
  exact third_at A (batch t.val) (point t.val) _ _ _ _ _ (sum2_at H t) (squares2_at H t) (fun k => (block2_2 V c t 0 k).trans (H.g _ _))
    (fun k => (block2_3 V c t 0 k).trans (H.be _ _)) (fun k i => (block2_0 V c t k i).trans (H.y _ _ _)) o i

include H in
/-- The third call's result. -/
theorem array2_4 (b : Fin 16) (o : Fin 256) (n : Fin 4096) :
    ((dat2 V c).arrAt 4 cfg2.N : Vec Ideal S16x256x4096 .f32) (ix3 b o n) = A.out b o n := by
  have e : ((dat2 V c).arrAt 4 cfg2.N : Vec Ideal S16x256x4096 .f32) = fun i => A.out (i 0) (i 1) (i 2) := by
    refine (dat2 V c).arrAt_eq_of_covers 4 _ (by decide +kernel) fun t _ y => ?_
    blk_simp
    rw [after2_4]
    have := points2 t
    have e : (win2_4.blk t).view.emb y = ix3 (batch t.val) (y 1 : Fin 256) (point t.val (y 2 : Fin 512)) := by
      blk_ext [index2 t, batch, point]
    have e' : y = ix3 0 (y 1 : Fin 256) (y 2 : Fin 512) := by
      blk_ext
    rw [e]
    refine Eq.trans ?_ (out2_at H t (y 1) (y 2))
    exact congrArg _ e'
  rw [e]
  rfl

end

end Cert.Val
-- ==== Proof.Value.Holds.lean ====
/- The twelve argument arrays as finite real numbers: what the precondition gives, and what both programs' values are stated over. -/
module

public import Idealize.ShloMosaic.Lib.Pointwise
public import proofs.«01_k».proof.Proof.Value.Spec

@[expose] public section

set_option maxRecDepth 16384

noncomputable section

namespace Cert.Val

open Idealize.ShloMosaic Idealize.ShloMosaic.Tactic

/-- Twelve arrays hold the arguments `A`. -/
structure Holds (a0 : Vec Ideal ⟨3, ![16, 4096, 3]⟩ .f32) (a1 : Vec Ideal ⟨3, ![16, 1024, 3]⟩ .f32) (a2 : Vec Ideal ⟨3, ![16, 256, 4096]⟩ .f32)
    (a3 : Vec Ideal ⟨3, ![16, 256, 1024]⟩ .f32) (a4 : Vec Ideal ⟨2, ![512, 512]⟩ .f32) (a5 a6 a7 : Vec Ideal ⟨1, ![512]⟩ .f32)
    (a8 : Vec Ideal ⟨2, ![256, 512]⟩ .f32) (a9 a10 a11 : Vec Ideal ⟨1, ![256]⟩ .f32) (A : Args) : Prop where
  h0 : ∀ b n k, a0 (ix3 b n k) = (A.xyz1 b n k : EReal)
  h1 : ∀ b s k, a1 (ix3 b s k) = (A.xyz2 b s k : EReal)
  h2 : ∀ b k n, a2 (ix3 b k n) = (A.p1 b k n : EReal)
  h3 : ∀ b k s, a3 (ix3 b k s) = (A.p2 b k s : EReal)
  h4 : ∀ o k, a4 (ix2 o k) = (A.w1 o k : EReal)
  h5 : ∀ o, a5 (ix1 o) = (A.b1 o : EReal)
  h6 : ∀ o, a6 (ix1 o) = (A.g1 o : EReal)
  h7 : ∀ o, a7 (ix1 o) = (A.be1 o : EReal)
  h8 : ∀ o k, a8 (ix2 o k) = (A.w2 o k : EReal)
  h9 : ∀ o, a9 (ix1 o) = (A.b2 o : EReal)
  h10 : ∀ o, a10 (ix1 o) = (A.g2 o : EReal)
  h11 : ∀ o, a11 (ix1 o) = A.be2 o

/-- Twelve arrays hold the real parts of their elements, all but the last's elements being finite. -/
theorem holds_real {a0 : Vec Ideal ⟨3, ![16, 4096, 3]⟩ .f32} {a1 : Vec Ideal ⟨3, ![16, 1024, 3]⟩ .f32} {a2 : Vec Ideal ⟨3, ![16, 256, 4096]⟩ .f32}
    {a3 : Vec Ideal ⟨3, ![16, 256, 1024]⟩ .f32} {a4 : Vec Ideal ⟨2, ![512, 512]⟩ .f32} {a5 a6 a7 : Vec Ideal ⟨1, ![512]⟩ .f32}
    {a8 : Vec Ideal ⟨2, ![256, 512]⟩ .f32} {a9 a10 : Vec Ideal ⟨1, ![256]⟩ .f32} (a11 : Vec Ideal ⟨1, ![256]⟩ .f32)
    (f0 : ∀ i, a0 i = ((a0 i).toReal : EReal)) (f1 : ∀ i, a1 i = ((a1 i).toReal : EReal)) (f2 : ∀ i, a2 i = ((a2 i).toReal : EReal))
    (f3 : ∀ i, a3 i = ((a3 i).toReal : EReal)) (f4 : ∀ i, a4 i = ((a4 i).toReal : EReal)) (f5 : ∀ i, a5 i = ((a5 i).toReal : EReal))
    (f6 : ∀ i, a6 i = ((a6 i).toReal : EReal)) (f7 : ∀ i, a7 i = ((a7 i).toReal : EReal)) (f8 : ∀ i, a8 i = ((a8 i).toReal : EReal))
    (f9 : ∀ i, a9 i = ((a9 i).toReal : EReal)) (f10 : ∀ i, a10 i = ((a10 i).toReal : EReal)) :
    ∃ A, Holds a0 a1 a2 a3 a4 a5 a6 a7 a8 a9 a10 a11 A :=
  ⟨⟨fun b n k => (a0 (ix3 b n k)).toReal, fun b s k => (a1 (ix3 b s k)).toReal, fun b k n => (a2 (ix3 b k n)).toReal,
    fun b k s => (a3 (ix3 b k s)).toReal, fun o k => (a4 (ix2 o k)).toReal, fun o => (a5 (ix1 o)).toReal, fun o => (a6 (ix1 o)).toReal,
    fun o => (a7 (ix1 o)).toReal, fun o k => (a8 (ix2 o k)).toReal, fun o => (a9 (ix1 o)).toReal, fun o => (a10 (ix1 o)).toReal, fun o => a11 (ix1 o)⟩,
   ⟨fun _ _ _ => f0 _, fun _ _ _ => f1 _, fun _ _ _ => f2 _, fun _ _ _ => f3 _, fun _ _ => f4 _, fun _ => f5 _, fun _ => f6 _, fun _ => f7 _,
    fun _ _ => f8 _, fun _ => f9 _, fun _ => f10 _, fun _ => rfl⟩⟩

end Cert.Val
-- ==== Proof.Value.Kernel.lean ====
/- The kernel's result from its arguments: the host operations' results between the calls, and the three calls chained. -/
module

public import proofs.«01_k».proof.Proof.Value.Region12
public import proofs.«01_k».proof.Proof.Value.Holds
public import proofs.«01_k».proof.Proof.KernelIdeal.Run

@[expose] public section

set_option maxRecDepth 16384

noncomputable section

namespace Cert.Val

open Cert.KernelIdeal Cert.KernelIdeal.Gen Cert.KernelIdeal.Own
open Idealize.ShloMosaic Idealize.ShloMosaic.Tactic Idealize.ShloMosaic.TcCoe

variable (m : (ℓ : Loc nD τ sig) → Buf (Elt Ideal) ℓ) (ρ : Dev nD → PrngReg) (c : Dev nD)

/-- The kernel's argument arrays at launch hold `A`. -/
abbrev KernelHolds (A : Args) : Prop :=
  Holds (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) A

/-- The padding value, converted from the integer zero, is zero. -/
theorem zero_word : FloatOps.sitofp (F := Ideal) .f32 0#32 = (0 : EReal) := by
  show ((((0#32).toInt : ℤ) : ℝ) : EReal) = 0
  simp

/-- Three coordinates padded by zeros to eight, at an index. -/
theorem pad1_at (x : Vec Ideal S16x4096x3 .f32) (b : Fin 16) (n : Fin 4096) (k : Fin 8) :
    pad S16x4096x8 ![0, 0, 0] ![0, 0, 5] ![0, 0, 0] x (sitofp (F := Ideal) .f32 (constantI S_ 32 0#32)) pads_S16x4096x3_S16x4096x8_000_000_050 h_S_ (ix3 b n k)
      = if h : k.val < 3 then x (ix3 b n ⟨k.val, h⟩) else 0 := by
  pointwise
  rw [zero_word]
/-- The padded source coordinates at an index: the coordinate for the first three columns, zero for the other five. -/
theorem pad2_at (x : Vec Ideal S16x1024x3 .f32) (b : Fin 16) (n : Fin 1024) (k : Fin 8) :
    pad S16x1024x8 ![0, 0, 0] ![0, 0, 5] ![0, 0, 0] x (sitofp (F := Ideal) .f32 (constantI S_ 32 0#32)) pads_S16x1024x3_S16x1024x8_000_000_050 h_S_ (ix3 b n k)
      = if h : k.val < 3 then x (ix3 b n ⟨k.val, h⟩) else 0 := by
  pointwise
  rw [zero_word]

/-- A vector of channels as one row, at an index. -/
theorem row512_at (x : Vec Ideal S512 .f32) (q : Fin 1) (o : Fin 512) : shapeCast S1x512 x shapeCasts_S512_S1x512 (ix2 q o) = x (ix1 o) := by
  pointwise
/-- A vector of 256 entries reshaped to one row keeps its entries in order. -/
theorem row256_at (x : Vec Ideal S256 .f32) (q : Fin 1) (o : Fin 256) : shapeCast S1x256 x shapeCasts_S256_S1x256 (ix2 q o) = x (ix1 o) := by
  pointwise

/-! ## The buffers at the three calls' entries -/

theorem padded1 : V1 m ρ c main_call0_v0
    = pad S16x4096x8 ![0, 0, 0] ![0, 0, 5] ![0, 0, 0] (W0 m ρ c main_arg0) (sitofp (F := Ideal) .f32 (constantI S_ 32 0#32)) pads_S16x4096x3_S16x4096x8_000_000_050 h_S_ := by
  unfold V1 W1 hostOps0
  after_results
  rfl
/-- The second padded array is the padding of the source coordinates. -/
theorem padded2 : V1 m ρ c main_call0_v1
    = pad S16x1024x8 ![0, 0, 0] ![0, 0, 5] ![0, 0, 0] (W0 m ρ c main_arg1) (sitofp (F := Ideal) .f32 (constantI S_ 32 0#32)) pads_S16x1024x3_S16x1024x8_000_000_050 h_S_ := by
  unfold V1 W1 hostOps0
  after_results
  rfl
/-- The first normalisation's scale, as the second call finds it, is the argument reshaped to one row. -/
theorem scale1 : V3 m ρ c main_call0_v3 = shapeCast S1x512 (W2 m ρ c main_arg6) shapeCasts_S512_S1x512 := by
  unfold V3 W3 hostOps1
  after_results
  rfl
/-- The first normalisation's shift, as the second call finds it, is the argument reshaped to one row. -/
theorem shift1 : V3 m ρ c main_call0_v4 = shapeCast S1x512 (W2 m ρ c main_arg7) shapeCasts_S512_S1x512 := by
  unfold V3 W3 hostOps1
  after_results
  rfl
/-- The second normalisation's scale, as the third call finds it, is the argument reshaped to one row. -/
theorem scale2 : V5 m ρ c main_call0_v6 = shapeCast S1x256 (W4 m ρ c main_arg10) shapeCasts_S256_S1x256 := by
  unfold V5 W5 hostOps2
  after_results
  rfl
/-- The second normalisation's shift, as the third call finds it, is the argument reshaped to one row. -/
theorem shift2 : V5 m ρ c main_call0_v7 = shapeCast S1x256 (W4 m ρ c main_arg11) shapeCasts_S256_S1x256 := by
  unfold V5 W5 hostOps2
  after_results
  rfl

section

variable {m c} {A : Args} (H : KernelHolds m c A)

include H in
/-- The first call's operands are the arguments. -/
theorem operands0 : Operands0 (V1 m ρ) c A where
  x1 b n k := by
    rw [padded1]
    refine (pad1_at _ b n k).trans ?_
    by_cases h : k.val < 3
    · rw [dif_pos h, dif_pos h]; exact H.h0 _ _ _
    · rw [dif_neg h, dif_neg h]; rfl
  x2 b s k := by
    rw [padded2]
    refine (pad2_at _ b s k).trans ?_
    by_cases h : k.val < 3
    · rw [dif_pos h, dif_pos h]; exact H.h1 _ _ _
    · rw [dif_neg h, dif_neg h]; rfl
  p1 b k n := (congrFun (W1_args m ρ c main_arg2 (by decide)) (ix3 b k n)).trans (H.h2 b k n)
  p2 b k s := (congrFun (W1_args m ρ c main_arg3 (by decide)) (ix3 b k s)).trans (H.h3 b k s)
  w1 o k := (congrFun (W1_args m ρ c main_arg4 (by decide)) (ix2 o k)).trans (H.h4 o k)

include H in
/-- The second call's operands: the first call's two results, and the arguments. -/
theorem operands1 : Operands1 (V3 m ρ) c A where
  y b o n := (congrFun ((W3_of m ρ c main_call0_v2_0 (by decide)).trans (W2_arr m ρ c 5)) (ix3 b o n)).trans (array0_5 (operands0 ρ H) b o n)
  st q o := (congrFun ((W3_of m ρ c main_call0_v2_1 (by decide)).trans (W2_arr m ρ c 6)) (ix2 q o)).trans (array0_6 (operands0 ρ H) q o)
  g q o := by
    rw [scale1]
    exact (row512_at _ q o).trans ((congrFun (W2_args m ρ c main_arg6 (by decide)) (ix1 o)).trans (H.h6 o))
  be q o := by
    rw [shift1]
    exact (row512_at _ q o).trans ((congrFun (W2_args m ρ c main_arg7 (by decide)) (ix1 o)).trans (H.h7 o))
  w2 o k := (congrFun (W3_args m ρ c main_arg8 (by decide)) (ix2 o k)).trans (H.h8 o k)

include H in
/-- The third call's operands: the second call's two results, and the arguments. -/
theorem operands2 : Operands2 (V5 m ρ) c A where
  y b o n := (congrFun ((W5_of m ρ c main_call0_v5_0 (by decide)).trans (W4_arr m ρ c 5)) (ix3 b o n)).trans (array1_5 (operands1 ρ H) b o n)
  st q o := (congrFun ((W5_of m ρ c main_call0_v5_1 (by decide)).trans (W4_arr m ρ c 6)) (ix2 q o)).trans (array1_6 (operands1 ρ H) q o)
  g q o := by
    rw [scale2]
    exact (row256_at _ q o).trans ((congrFun (W4_args m ρ c main_arg10 (by decide)) (ix1 o)).trans (H.h10 o))
  be q o := by
    rw [shift2]
    exact (row256_at _ q o).trans ((congrFun (W4_args m ρ c main_arg11 (by decide)) (ix1 o)).trans (H.h11 o))

include H in
/-- The kernel's result. -/
theorem kernel_at (b : Fin 16) (o : Fin 256) (n : Fin 4096) :
    ((dat2 (V5 m ρ) c).arrAt 4 cfg2.N : Vec Ideal S16x256x4096 .f32) (ix3 b o n) = A.out b o n :=
  array2_4 (operands2 ρ H) b o n

end

end Cert.Val
-- ==== Proof.Value.Finite.lean ====
/- The precondition read: eleven arrays of finite elements. -/
module

public import proofs.«01_k».proof.Defs
public import proofs.«01_k».proof.Proof.Value.Kernel

@[expose] public section

set_option maxRecDepth 16384

noncomputable section

namespace Cert.Val

open Idealize.ShloMosaic Idealize.ShloMosaic.Tactic

/-- The side conditions the precondition's operations state. -/
theorem finite_facts : Cert.Pre_finite.Facts :=
  ⟨by decide, by decide, by decide, by decide, by decide, by decide, by decide, by decide⟩

/-- An element whose absolute value is below infinity is the real number it is read as. -/
theorem real_of_lt (x : EReal) (h : BitVec.ofBool (decide (max x (-x) < Ideal.ofBits .f32 0x7F800000#32)) = 1#1) : x = (x.toReal : EReal) := by
  have h' : max x (-x) < ⊤ := by
    rw [lit_inf] at h
    by_contra hn
    rw [decide_eq_false hn] at h
    exact absurd h (by decide)
  refine (EReal.coe_toReal (fun e => ?_) (fun e => ?_)).symm
  · rw [e] at h'
    exact absurd h' (by simp)
  · rw [e] at h'
    exact absurd h' (by simp)

open Cert.KernelIdeal in
/-- Under the precondition the kernel's arguments hold real numbers, all but the last. -/
theorem exists_holds (m : (ℓ : Loc nD τ sig) → Buf (Elt Ideal) ℓ) (h : Cert.Pre_KernelIdeal_finite (hPre_finite := finite_facts) m) (c : Dev nD) :
    ∃ A, KernelHolds m c A := by
  obtain ⟨f0, f1, f2, f3, f4, f5, f6, f7, f8, f9, f10⟩ := h c
  exact holds_real _ (fun i => real_of_lt _ (congrFun f0 i)) (fun i => real_of_lt _ (congrFun f1 i)) (fun i => real_of_lt _ (congrFun f2 i))
    (fun i => real_of_lt _ (congrFun f3 i)) (fun i => real_of_lt _ (congrFun f4 i)) (fun i => real_of_lt _ (congrFun f5 i))
    (fun i => real_of_lt _ (congrFun f6 i)) (fun i => real_of_lt _ (congrFun f7 i)) (fun i => real_of_lt _ (congrFun f8 i))
    (fun i => real_of_lt _ (congrFun f9 i)) (fun i => real_of_lt _ (congrFun f10 i))

end Cert.Val
-- ==== Proof.Value.RefPick.lean ====
/- The reference's selection of the three nearest points, the features it gathers, and its sums over two axes, at an index. -/
module

public import proofs.«01_k».proof.Proof.Gen.ReferenceIdeal.Run
public import proofs.«01_k».proof.Proof.Value.Spec
public import Idealize.ShloMosaic.Lib.Pointwise

@[expose] public section

set_option maxRecDepth 16384

noncomputable section

namespace Cert.Val

open Cert.ReferenceIdeal Cert.ReferenceIdeal.Gen
open Idealize.ShloMosaic Idealize.ShloMosaic.Tactic

/-! ## The three greatest -/

/-- The positions along the last axis in the order of the sort, greatest first. -/
abbrev order (x : Vec Ideal S16x4096x1024 .f32) (b : Fin 16) (n : Fin 4096) : Fin 1024 → Fin 1024 :=
  sortedFrom fun k k' => FloatOps.cmpfTotal (F := Ideal) (φ := .f32) .gt (x (ix3 b n k)) (x (ix3 b n k')) == 1#1

/-- Replacing the last coordinate of an index of the distance array. -/
theorem along_last (b : Fin 16) (n : Fin 4096) (r k : Fin 1024) :
    Shape.Idx.along (s := S16x4096x1024) (ix3 b n r) 2 k = ix3 b n k := by
  funext a
  fin_cases a <;> rfl

/-- The `r`-th greatest entry of a row. -/
theorem greatest_values (x : Vec Ideal S16x4096x1024 .f32) (b : Fin 16) (n : Fin 4096) (r : Fin 3) :
    (Host.topK S16x4096x3 2 (FloatOps.cmpfTotal (F := Ideal) (φ := .f32) .gt) x sliceFits_S16x4096x1024_S16x4096x3).1 (ix3 b n r)
      = x (ix3 b n (order x b n (r.castLE (by omega)))) := by
  unfold Host.topK
  pointwise
  unfold Host.sort2
  rw [dif_pos (by decide)]
  refine (congrArg x (along_last b n _ _)).trans (congrArg (fun k => x (ix3 b n k)) (congrArg (fun p => sortedFrom p _) ?_))
  funext k k'
  exact congrArg₂ (fun u v => FloatOps.cmpfTotal (F := Ideal) (φ := .f32) .gt u v == 1#1) (congrArg x (along_last b n _ k)) (congrArg x (along_last b n _ k'))

/-- The position of the `r`-th greatest entry of a row, as a word. -/
theorem greatest_positions (x : Vec Ideal S16x4096x1024 .f32) (b : Fin 16) (n : Fin 4096) (r : Fin 3) :
    (Host.topK S16x4096x3 2 (FloatOps.cmpfTotal (F := Ideal) (φ := .f32) .gt) x sliceFits_S16x4096x1024_S16x4096x3).2 (ix3 b n r)
      = BitVec.ofNat 32 (order x b n (r.castLE (by omega))).val := by
  unfold Host.topK
  pointwise
  unfold Host.sort2
  rw [dif_pos (by decide)]
  refine (congrArg (fun i : S16x4096x1024.Idx => BitVec.ofNat 32 (i 2).val) (along_last b n _ _)).trans
    (congrArg (fun k : Fin 1024 => BitVec.ofNat 32 k.val) (congrArg (fun p => sortedFrom p _) ?_))
  funext k k'
  exact congrArg₂ (fun u v => FloatOps.cmpfTotal (F := Ideal) (φ := .f32) .gt u v == 1#1) (congrArg x (along_last b n _ k)) (congrArg x (along_last b n _ k'))

/-- On the negated distances the order is the order of the nearest. -/
theorem order_eq (x : Vec Ideal S16x4096x1024 .f32) (f : Fin 1024 → EReal) (b : Fin 16) (n : Fin 4096) (hx : ∀ s, x (ix3 b n s) = -f s) (hf : ∀ s, f s < ⊤)
    (r : Fin 3) : order x b n (r.castLE (by omega)) = pick f r := by
  rw [← sortedFrom_eq_pick f (by omega) hf r]
  refine congrArg (fun p => sortedFrom p _) ?_
  funext k k'
  rw [hx, hx]
  show (BitVec.ofBool (decide (-f k' < -f k)) == 1#1) = decide (f k < f k')
  rw [Bool.eq_iff_iff]
  by_cases h : f k < f k'
  · simp [h]
  · simp [h]

/-! ## The gathered features -/

theorem gathered (x : Vec Ideal S16x1024x256 .f32) (idx : Vec Ideal S16x4096x3x1 .i32) (b : Fin 16) (n : Fin 4096) (r : Fin 3) (c : Fin 256)
    (p : Fin 1024) (hp : idx (ix4 b n r 0) = BitVec.ofNat 32 p.val) :
    Host.gather gather_S16x1024x256_S16x4096x3x1_S16x4096x3x256_3_1_0_0_1_3_11256 x idx (ix4 b n r c) = x (ix3 b p c) := by
  refine congrArg x ?_
  have hs : gather_S16x1024x256_S16x4096x3x1_S16x4096x3x256_3_1_0_0_1_3_11256.siIdx (ix4 b n r c) ⟨0, by decide⟩ = ix4 b n r 0 := by
    funext a
    fin_cases a <;> rfl
  funext a
  apply Fin.ext
  fin_cases a
  · show 0 + b.val + 0 = b.val
    omega
  · show min (idx (gather_S16x1024x256_S16x4096x3x1_S16x4096x3x256_3_1_0_0_1_3_11256.siIdx (ix4 b n r c) ⟨0, by decide⟩)).toInt.toNat 1023 + 0 + 0 = p.val
    rw [hs, hp, toInt_ofNat _ (by omega)]
    omega
  · show 0 + 0 + c.val = c.val
    omega

/-! ## Sums over the batch and the points -/

theorem sum512 (x : Vec Ideal S16x512x4096 .f32) (init : EReal) (o : Fin 512) :
    Ideal.hostReduceAdd reducesTo_S16x512x4096_S512_d0_2 x init (ix1 o) = init + ∑ b : Fin 16, ∑ n : Fin 4096, x (ix3 b o n) := by
  refine congrArg (init + ·) ?_
  rw [Finset.sum_filter_eq_sum_of_fiber _ (fun k : Fin 16 × Fin 4096 => (ix3 k.1 o k.2 : S16x512x4096.Idx))
    (fun _ _ e => Prod.ext (congrFun e 0) (congrFun e 2)) ?_ x, Fintype.sum_prod_type]
  intro i
  constructor
  · intro h
    refine ⟨(i 0, i 2), ?_⟩
    have h0 : i 1 = o := congrFun h 0
    funext a
    fin_cases a
    · rfl
    · exact h0.symm
    · rfl
  · rintro ⟨k, rfl⟩
    funext a
    fin_cases a
    rfl

/-- A sum over batches and points of a [16, 256, 4096] array, at a channel, is the initial value plus the double sum. -/
theorem sum256 (x : Vec Ideal S16x256x4096 .f32) (init : EReal) (o : Fin 256) :
    Ideal.hostReduceAdd reducesTo_S16x256x4096_S256_d0_2 x init (ix1 o) = init + ∑ b : Fin 16, ∑ n : Fin 4096, x (ix3 b o n) := by
  refine congrArg (init + ·) ?_
  rw [Finset.sum_filter_eq_sum_of_fiber _ (fun k : Fin 16 × Fin 4096 => (ix3 k.1 o k.2 : S16x256x4096.Idx))
    (fun _ _ e => Prod.ext (congrFun e 0) (congrFun e 2)) ?_ x, Fintype.sum_prod_type]
  intro i
  constructor
  · intro h
    refine ⟨(i 0, i 2), ?_⟩
    have h0 : i 1 = o := congrFun h 0
    funext a
    fin_cases a
    · rfl
    · exact h0.symm
    · rfl
  · rintro ⟨k, rfl⟩
    funext a
    fin_cases a
    rfl

end Cert.Val
-- ==== Proof.Value.Reference.lean ====
/- The reference's result from its arguments: its intermediate arrays, each at an index. -/
module

public import proofs.«01_k».proof.Proof.Value.RefPick
public import proofs.«01_k».proof.Proof.Value.Holds

@[expose] public section

set_option maxRecDepth 16384

noncomputable section

namespace Cert.Val

open Cert.ReferenceIdeal Cert.ReferenceIdeal.Gen Cert.ReferenceIdeal.Value
open Idealize.ShloMosaic Idealize.ShloMosaic.Tactic Idealize.ShloMosaic.TcCoe Idealize.SL.Sem

/-- A channel's entry, normalised and scaled, is the same with a constant added to the channel. -/
theorem normed_shift (y : Fin 16 → Fin 4096 → ℝ) (k g : ℝ) (b : Fin 16) (n : Fin 4096) :
    (y b n + k - mean fun b n => y b n + k) / Real.sqrt ((var fun b n => y b n + k) + eps5) * g = normed y g b n := by
  rw [mean_shift, var_shift, normed, add_sub_add_right_eq_sub]

/-- A mean as the reference computes it. -/
theorem mean_at (y : Fin 16 → Fin 4096 → ℝ) (s : EReal) (h : s = ((∑ b, ∑ n, y b n : ℝ) : EReal)) :
    Ideal.div s (Ideal.ofBits .f32 0x47800000#32) = (mean y : EReal) := by
  rw [h, lit_count, div_real _ _ (by norm_num), mean]

/-- The normalisation as the reference computes it, from a channel's sum of squared deviations. -/
theorem normed_at (y : Fin 16 → Fin 4096 → ℝ) (k g : ℝ) (x μ v G : EReal) (b : Fin 16) (n : Fin 4096) (hx : x = ((y b n + k : ℝ) : EReal))
    (hμ : μ = ((mean fun b n => y b n + k : ℝ) : EReal)) (hv : v = ((var fun b n => y b n + k : ℝ) : EReal)) (hG : G = (g : EReal)) :
    Ideal.div (x - μ) (Ideal.sqrt (v + Ideal.ofBits .f32 0x3727C5AC#32)) * G = (normed y g b n : EReal) := by
  rw [hx, hμ, hv, hG, lit_eps5, ← EReal.coe_add, sqrt_real _ (var_eps_pos _), ← EReal.coe_sub,
    div_real _ _ (Real.sqrt_pos.mpr (var_eps_pos _)).ne', ← EReal.coe_mul, normed_shift]

variable (V0 : Valuation τ sig (Elt Ideal))

/-- The reference's arguments hold `A`. -/
abbrev RefHolds (A : Args) : Prop :=
  Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11)) A

variable {V0} {A : Args} (H : RefHolds V0 A)

include H in
/-- The negated distances. -/
theorem neg_dist_at (b : Fin 16) (n : Fin 4096) (s : Fin 1024) :
    (res_main_v14 V0 : Vec Ideal S16x4096x1024 .f32) (ix3 b n s) = -A.row b n s := by
  pointwise [res_main_v14]
  simp only [H.h0, H.h1, lit_neg_two, ← EReal.coe_mul, coe_sum, ← EReal.coe_add]
  rfl

include H in
theorem order_at (b : Fin 16) (n : Fin 4096) (r : Fin 3) : order (res_main_v14 V0) b n (r.castLE (by omega)) = A.near b n r :=
  order_eq _ (A.row b n) b n (neg_dist_at H b n) (A.row_lt_top b n) r

include H in
/-- The positions of the three nearest points. -/
theorem positions_at (b : Fin 16) (n : Fin 4096) (r : Fin 3) :
    (res_main_indices V0 : Vec Ideal S16x4096x3 .i32) (ix3 b n r) = BitVec.ofNat 32 (A.near b n r).val := by
  unfold res_main_indices
  rw [greatest_positions, order_at H]

include H in
/-- The reciprocals of the three nearest distances. -/
theorem nearest_recip_at (b : Fin 16) (n : Fin 4096) (r : Fin 3) :
    (res_main_v19 V0 : Vec Ideal S16x4096x3 .f32) (ix3 b n r) = (A.recip b n r : EReal) := by
  pointwise [res_main_v19]
  rw [greatest_values, order_at H, neg_dist_at H, neg_neg, lit_eps8, Args.row, ← EReal.coe_add, ← EReal.coe_one,
    div_real _ _ (A.dist_eps_pos b n _).ne']
  rfl

include H in
/-- The first layer. -/
theorem first_layer_at (b : Fin 16) (o : Fin 512) (n : Fin 4096) :
    (res_main_v42 V0 : Vec Ideal S16x512x4096 .f32) (ix3 b o n) = ((A.y1 o b n + A.b1 o : ℝ) : EReal) := by
  have hg : ∀ (c : Fin 256) (r : Fin 3), Host.gather gather_S16x1024x256_S16x4096x3x1_S16x4096x3x256_3_1_0_0_1_3_11256
      (transpose S16x1024x256 [0, 2, 1] (V0 (Proc.devRef .tc main_arg3)) transposes_S16x256x1024_S16x1024x256_0_2_1)
      (broadcastInDim S16x4096x3x1 ![0, 1, 2] bcast_S16x4096x3_S16x4096x3x1_0_1_2 (select (cmpi .slt (res_main_indices V0)
        (broadcastInDim S16x4096x3 ![] bcast_S_S16x4096x3 (constantI S_ 32 0#32))) (addi (res_main_indices V0)
        (broadcastInDim S16x4096x3 ![] bcast_S_S16x4096x3 (constantI S_ 32 1024#32))) (res_main_indices V0))) (ix4 b n r c)
      = (A.p2 b c (A.near b n r) : EReal) := by
    intro c r
    rw [gathered _ _ b n r c (A.near b n r)]
    · pointwise
      exact H.h3 _ _ _
    · pointwise
      rw [positions_at H]
      have hz : IntOp.cmpi .slt (BitVec.ofNat 32 (A.near b n r).val) 0#32 = 0#1 := by
        rw [IntOp.cmpi]
        show BitVec.ofBool (decide ((BitVec.ofNat 32 (A.near b n r).val).toInt < (0#32).toInt)) = 0#1
        rw [toInt_ofNat _ (by omega), decide_eq_false (by show ¬((_ : ℕ) : ℤ) < 0; omega)]
        rfl
      rw [hz]
      rfl
  have ht : A.total b n ≠ 0 := (A.total_pos b n).ne'
  pointwise [res_main_v42]
  simp only [hg, nearest_recip_at H, H.h2, H.h4, H.h5, coe_sum]
  have hd : ∀ r, Ideal.div (A.recip b n r : EReal) ((∑ i, A.recip b n i : ℝ) : EReal) = (A.weight b n r : EReal) := fun r => div_real _ _ ht
  simp only [hd, ← EReal.coe_mul, coe_sum, ← EReal.coe_add]
  unfold Args.y1 Args.interp
  simp only [mul_comm (A.w1 o _)]
  rfl

/-- The number of points is positive. -/
theorem count_pos : (0 : EReal) < ((65536 : ℝ) : EReal) := EReal.coe_pos.mpr (by norm_num)

/-- The count the reference divides a variance by. -/
theorem count_at : (res_main_call0_v8 V0 : Vec Ideal S_ .f32) ix0 = ((65536 : ℝ) : EReal) := by
  pointwise [res_main_call0_v8]
  rw [lit_count]
  show ((65536 : ℝ) : EReal) - ((((0#32).toInt : ℤ) : ℝ) : EReal) = _
  simp

/-- The count the reference divides the second variance by. -/
theorem count_at' : (res_main_call2_v8 V0 : Vec Ideal S_ .f32) ix0 = ((65536 : ℝ) : EReal) := by
  pointwise [res_main_call2_v8]
  rw [lit_count]
  show ((65536 : ℝ) : EReal) - ((((0#32).toInt : ℤ) : ℝ) : EReal) = _
  simp

include H in
theorem first_mean_at (o : Fin 512) :
    Ideal.div (Ideal.hostReduceAdd reducesTo_S16x512x4096_S512_d0_2 (res_main_v42 V0) 0 (ix1 o)) (Ideal.ofBits .f32 0x47800000#32)
      = ((mean fun b n => A.y1 o b n + A.b1 o : ℝ) : EReal) := by
  refine mean_at _ _ ?_
  rw [sum512, zero_add]
  simp only [first_layer_at H, coe_sum]

include H in
theorem first_var_at (o : Fin 512) :
    Ideal.div (Ideal.hostReduceAdd reducesTo_S16x512x4096_S512_d0_2 (mulf (res_main_call0_v5 V0) (res_main_call0_v5 V0)) 0 (ix1 o)) ((65536 : ℝ) : EReal)
      = ((var fun b n => A.y1 o b n + A.b1 o : ℝ) : EReal) := by
  rw [sum512, zero_add]
  pointwise [res_main_call0_v5]
  simp only [first_mean_at H, first_layer_at H, ← EReal.coe_sub, ← EReal.coe_mul, coe_sum]
  rw [div_real _ _ (by norm_num)]
  rfl

include H in
/-- The second layer. -/
theorem second_layer_at (b : Fin 16) (o : Fin 256) (n : Fin 4096) :
    (res_main_v66 V0 : Vec Ideal S16x256x4096 .f32) (ix3 b o n) = ((A.y2 o b n + A.b2 o : ℝ) : EReal) := by
  pointwise [res_main_v66]
  simp only [count_at, if_pos count_pos]
  simp only [fun x => normed_at (A.y1 x) (A.b1 x) (A.g1 x) _ _ _ _ b n (first_layer_at H b x n) (first_mean_at H x) (first_var_at H x) (H.h6 x),
    H.h7, H.h8, H.h9]
  simp only [← EReal.coe_zero, ← EReal.coe_add, coe_max, ← EReal.coe_mul, coe_sum]
  exact congrArg (fun s : ℝ => ((s + A.b2 o : ℝ) : EReal)) (Finset.sum_congr rfl fun k _ => mul_comm _ _)

include H in
theorem second_mean_at (o : Fin 256) :
    Ideal.div (Ideal.hostReduceAdd reducesTo_S16x256x4096_S256_d0_2 (res_main_v66 V0) 0 (ix1 o)) (Ideal.ofBits .f32 0x47800000#32)
      = ((mean fun b n => A.y2 o b n + A.b2 o : ℝ) : EReal) := by
  refine mean_at _ _ ?_
  rw [sum256, zero_add]
  simp only [second_layer_at H, coe_sum]

include H in
theorem second_var_at (o : Fin 256) :
    Ideal.div (Ideal.hostReduceAdd reducesTo_S16x256x4096_S256_d0_2 (mulf (res_main_call2_v5 V0) (res_main_call2_v5 V0)) 0 (ix1 o)) ((65536 : ℝ) : EReal)
      = ((var fun b n => A.y2 o b n + A.b2 o : ℝ) : EReal) := by
  rw [sum256, zero_add]
  pointwise [res_main_call2_v5]
  simp only [second_mean_at H, second_layer_at H, ← EReal.coe_sub, ← EReal.coe_mul, coe_sum]
  rw [div_real _ _ (by norm_num)]
  rfl

/-- The reference runs to the end with the result and the arguments unchanged. -/
theorem reference_run (m : (ℓ : Loc nD τ sig) → Buf (Elt Ideal) ℓ) (ρ : Dev nD → PrngReg) (A : Dev nD → Args)
    (H : ∀ c, RefHolds (StableHlo.launchContents m c) (A c)) :
    θ_run defs (onTc (τ := τ) (main (F := Ideal))) ⟨m, fun _ => 0, ρ⟩ fun r => ∀ c : Dev nD,
      r.2.mem ((c.tc : Thread nD τ).loc main_v85) = (fun i : S16x256x4096.Idx => (A c).out (i 0) (i 1) (i 2))
        ∧ ∀ a ∈ [main_arg0, main_arg1, main_arg2, main_arg3, main_arg4, main_arg5, main_arg6, main_arg7, main_arg8, main_arg9, main_arg10, main_arg11],
            r.2.mem ((c.tc : Thread nD τ).loc a) = m ((c.tc : Thread nD τ).loc a) := by
  refine (run m ρ).mono fun r h c => ⟨(h c).1.trans ?_, ?_⟩
  · funext i
    obtain ⟨b, o, n, rfl⟩ : ∃ (b : Fin 16) (o : Fin 256) (n : Fin 4096), i = ix3 b o n :=
      ⟨i 0, i 1, i 2, by funext a; fin_cases a <;> rfl⟩
    pointwise
    simp only [count_at']
    rw [if_pos count_pos,
      normed_at ((A c).y2 o) ((A c).b2 o) ((A c).g2 o) _ _ _ _ b n (second_layer_at (H c) b o n) (second_mean_at (H c) o) (second_var_at (H c) o) ((H c).h10 o),
      (H c).h11]
    rfl
  · simpa [List.forall_mem_cons] using (h c).2

end Cert.Val
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Finite
public import proofs.«01_k».proof.Proof.Value.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates, leaves its arguments unchanged and every counter at zero. -/
theorem frame_k : Cert.quiescent_Kernel (hKernel := Cert.Kernel.Gen.facts) := fun m g _ => Cert.Kernel.Own.frame m g

/-- So does its idealization. -/
theorem frame_ki : Cert.quiescent_KernelIdeal (hKernelIdeal := Cert.KernelIdeal.Gen.facts) :=
  fun m g _ => Cert.KernelIdeal.Own.frame m g

/-- So does the reference: it declares no semaphore, and its run leaves its arguments. -/
theorem frame_ri : Cert.quiescent_ReferenceIdeal (hReferenceIdeal := Cert.ReferenceIdeal.Gen.facts) :=
  fun m g _ => (Cert.ReferenceIdeal.Value.run m g).mono fun r h =>
    ⟨fun c => (h c).2, sem_eq_zero_of_no_sems (by decide) _⟩

/-- On arguments that are finite, all but the last, the idealization and the reference leave equal results: both leave
    `Args.out` of the arguments, and the arguments unchanged. -/
theorem algebraic_ki_ri : Cert.algebraic_KernelIdeal_ReferenceIdeal_pre_finite (hKernelIdeal := Cert.KernelIdeal.Gen.facts)
    (hReferenceIdeal := Cert.ReferenceIdeal.Gen.facts) (hPre_finite := Cert.Val.finite_facts) := by
  intro m g m' g' hp he
  choose A hA using Cert.Val.exists_holds m hp
  have hA' : ∀ c, Cert.Val.RefHolds (StableHlo.launchContents m' c) (A c) := by
    intro c
    obtain ⟨e0, e1, e2, e3, e4, e5, e6, e7, e8, e9, e10, e11⟩ := he c
    have h := hA c
    unfold Cert.Val.KernelHolds at h
    rw [← e0, ← e1, ← e2, ← e3, ← e4, ← e5, ← e6, ← e7, ← e8, ← e9, ← e10, ← e11] at h
    exact h
  refine ⟨fun c => fun i : Cert.KernelIdeal.S16x256x4096.Idx => (A c).out (i 0) (i 1) (i 2), ?_, ?_⟩
  · refine (Cert.KernelIdeal.Own.run m g).mono fun r h c => ⟨(h.1 c).1.trans ?_, (h.1 c).2⟩
    funext i
    obtain ⟨b, o, n, rfl⟩ : ∃ (b : Fin 16) (o : Fin 256) (n : Fin 4096), i = ix3 b o n :=
      ⟨i 0, i 1, i 2, by funext a; fin_cases a <;> rfl⟩
    exact Cert.Val.kernel_at g (hA c) b o n
  · refine (Cert.Val.reference_run m' g' A hA').mono fun r h c => ⟨(h c).1, ?_⟩
    simpa [List.forall_mem_cons] using (h c).2

/-- The certified claims, all together. -/
theorem claim : Cert.Claim :=
  ⟨Cert.Kernel.Gen.facts, Cert.KernelIdeal.Gen.facts, Cert.ReferenceIdeal.Gen.facts, Cert.Val.finite_facts, frame_k, frame_ki,
    fun m g _ => frame_ki m g trivial, frame_ri, fun m g _ => frame_ri m g trivial, trivial, algebraic_ki_ri⟩

end Cert.Proof

end
